-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S8192x4096 : Shape := ⟨2, ![8192, 4096]⟩
abbrev S4096x2048 : Shape := ⟨2, ![4096, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S_ : Shape := ⟨0, ![]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S8192x16x64 : Shape := ⟨3, ![8192, 16, 64]⟩
abbrev S8192x16x9 : Shape := ⟨3, ![8192, 16, 9]⟩
abbrev S8192x16x8 : Shape := ⟨3, ![8192, 16, 8]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  shapeCasts_S8192x1024_S8192x16x64 : S8192x1024.ShapeCasts S8192x16x64
  sliceFits_S8192x16x64_S8192x16x9 : S8192x16x64.Slices (fun _ => 0) S8192x16x9
  slices_S8192x16x9_S8192x16x8_0_0_0 : S8192x16x9.Slices ![0, 0, 0] S8192x16x8
  slices_S8192x16x9_S8192x16x8_0_0_1 : S8192x16x9.Slices ![0, 0, 1] S8192x16x8
  reducesTo_S8192x16x8_S_d0_1_2 : S8192x16x8.ReducesTo [0, 1, 2] S_
  dot_S8192x4096_S4096x2048_S8192x2048_1_0_0_1_n_n_wf : DotDims.WF S8192x4096 S4096x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x1024_S8192x1024_1_0_0_1_n_n_wf : DotDims.WF S8192x2048 S2048x1024 S8192x1024 [1] [0] [0] [1] [] []

variable [Facts]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def fn_part7 {F : FTy → Type} [FloatOps F] (main_v53 : IVec S_ 1) (main_values : FVec F S8192x16x9 .f32) (main_v129 : FVec F S8192x16x8 .f32) : IVec S_ 1 :=
  let main_v130 : FVec F S8192x16x8 .f32 := (extractStridedSlice S8192x16x8 ![0, 0, 1] · slices_S8192x16x9_S8192x16x8_0_0_1) main_values
  let main_v131 : IVec S8192x16x8 1 := cmpf .ogt main_v129 main_v130
  let main_c_34 : IVec S_ 1 := constantI S_ 1 1#1
  let main_v132 : IVec S_ 1 := (fun x v => Host.reduce IntOp.andi x v reducesTo_S8192x16x8_S_d0_1_2 h_S_) main_v131 main_c_34
  let main_v133 : IVec S_ 1 := andi main_v53 main_v132
  main_v133

def fn_part6 {F : FTy → Type} [FloatOps F] (main_arg7 : FVec F S2048 .f32) (main_arg8 : FVec F S2048 .f32) (main_arg9 : FVec F S2048x1024 .f32) (main_arg10 : FVec F S1024 .f32) (main_v53 : IVec S_ 1) (main_v105 : FVec F S8192x2048 .f32) (main_v109 : FVec F S8192x2048 .f32) : IVec S_ 1 :=
  let main_v110 : FVec F S8192x2048 .f32 := Host.divf main_v105 main_v109
  let main_v111 : FVec F S1x2048 .f32 := broadcastInDim S1x2048 ![1] bcast_S2048_S1x2048_1 main_arg7
  let main_v112 : FVec F S8192x2048 .f32 := broadcastInDim S8192x2048 ![0, 1] bcast_S1x2048_S8192x2048_0_1 main_v111
  let main_v113 : FVec F S8192x2048 .f32 := mulf main_v110 main_v112
  let main_v114 : FVec F S1x2048 .f32 := broadcastInDim S1x2048 ![1] bcast_S2048_S1x2048_1 main_arg8
  let main_v115 : FVec F S8192x2048 .f32 := broadcastInDim S8192x2048 ![0, 1] bcast_S1x2048_S8192x2048_0_1 main_v114
  let main_v116 : FVec F S8192x2048 .f32 := addf main_v113 main_v115
  let main_cst_32 : FVec F S_ .f32 := constant S_ .f32 0x3F000000#32
  let main_v117 : FVec F S8192x2048 .f32 := broadcastInDim S8192x2048 ![] bcast_S_S8192x2048 main_cst_32
  let main_v118 : FVec F S8192x2048 .f32 := mulf main_v117 main_v116
  let main_v119 : FVec F S8192x2048 .f32 := Host.negf main_v116
  let main_cst_33 : FVec F S_ .f32 := constant S_ .f32 0x3F3504F3#32
  let main_v120 : FVec F S8192x2048 .f32 := broadcastInDim S8192x2048 ![] bcast_S_S8192x2048 main_cst_33
  let main_v121 : FVec F S8192x2048 .f32 := mulf main_v119 main_v120
  let main_v122 : FVec F S8192x2048 .f32 := Host.erfc main_v121
  let main_v123 : FVec F S8192x2048 .f32 := mulf main_v118 main_v122
  let main_v124 : FVec F S8192x1024 .f32 := (fun l r => Host.dotGeneral dot_S8192x2048_S2048x1024_S8192x1024_1_0_0_1_n_n none l r) main_v123 main_arg9
  let main_v125 : FVec F S1x1024 .f32 := broadcastInDim S1x1024 ![1] bcast_S1024_S1x1024_1 main_arg10
  let main_v126 : FVec F S8192x1024 .f32 := broadcastInDim S8192x1024 ![0, 1] bcast_S1x1024_S8192x1024_0_1 main_v125
  let main_v127 : FVec F S8192x1024 .f32 := addf main_v124 main_v126
  let main_v128 : FVec F S8192x16x64 .f32 := shapeCast S8192x16x64 main_v127 shapeCasts_S8192x1024_S8192x16x64
  let main_values : FVec F S8192x16x9 .f32 := (fun x => (Host.topK S8192x16x9 2 (FloatOps.cmpfTotal .gt) x sliceFits_S8192x16x64_S8192x16x9).1) main_v128
  let main_indices : IVec S8192x16x9 32 := (fun x => (Host.topK S8192x16x9 2 (FloatOps.cmpfTotal .gt) x sliceFits_S8192x16x64_S8192x16x9).2) main_v128
  let main_v129 : FVec F S8192x16x8 .f32 := (extractStridedSlice S8192x16x8 ![0, 0, 0] · slices_S8192x16x9_S8192x16x8_0_0_0) main_values
  fn_part7 (F := F) main_v53 main_values main_v129

def fn_part5 {F : FTy → Type} [FloatOps F] (main_arg7 : FVec F S2048 .f32) (main_arg8 : FVec F S2048 .f32) (main_arg9 : FVec F S2048x1024 .f32) (main_arg10 : FVec F S1024 .f32) (main_v53 : IVec S_ 1) (main_v89 : FVec F S8192x2048 .f32) (main_v90 : FVec F S1x2048 .f32) : IVec S_ 1 :=
  let main_v91 : FVec F S8192x2048 .f32 := broadcastInDim S8192x2048 ![0, 1] bcast_S1x2048_S8192x2048_0_1 main_v90
  let main_v92 : FVec F S8192x2048 .f32 := addf main_v89 main_v91
  let main_cst_27 : FVec F S_ .f32 := constant S_ .f32 0x00000000#32
  let main_v93 : FVec F S8192 .f32 := (fun x v => Host.reduceAdd x v reducesTo_S8192x2048_S8192_d1 h_S_) main_v92 main_cst_27
  let main_v94 : FVec F S8192x1 .f32 := broadcastInDim S8192x1 ![0] bcast_S8192_S8192x1_0 main_v93
  let main_cst_28 : FVec F S_ .f32 := constant S_ .f32 0x45000000#32
  let main_v95 : FVec F S8192x1 .f32 := broadcastInDim S8192x1 ![] bcast_S_S8192x1 main_cst_28
  let main_v96 : FVec F S8192x1 .f32 := Host.divf main_v94 main_v95
  let main_v97 : FVec F S8192x2048 .f32 := broadcastInDim S8192x2048 ![0, 1] bcast_S8192x1_S8192x2048_0_1 main_v96
  let main_v98 : FVec F S8192x2048 .f32 := subf main_v92 main_v97
  let main_v99 : FVec F S8192x2048 .f32 := mulf main_v98 main_v98
  let main_cst_29 : FVec F S_ .f32 := constant S_ .f32 0x00000000#32
  let main_v100 : FVec F S8192 .f32 := (fun x v => Host.reduceAdd x v reducesTo_S8192x2048_S8192_d1 h_S_) main_v99 main_cst_29
  let main_v101 : FVec F S8192x1 .f32 := broadcastInDim S8192x1 ![0] bcast_S8192_S8192x1_0 main_v100
  let main_cst_30 : FVec F S_ .f32 := constant S_ .f32 0x45000000#32
  let main_v102 : FVec F S8192x1 .f32 := broadcastInDim S8192x1 ![] bcast_S_S8192x1 main_cst_30
  let main_v103 : FVec F S8192x1 .f32 := Host.divf main_v101 main_v102
  let main_v104 : FVec F S8192x2048 .f32 := broadcastInDim S8192x2048 ![0, 1] bcast_S8192x1_S8192x2048_0_1 main_v96
  let main_v105 : FVec F S8192x2048 .f32 := subf main_v92 main_v104
  let main_cst_31 : FVec F S_ .f32 := constant S_ .f32 0x3727C5AC#32
  let main_v106 : FVec F S8192x1 .f32 := broadcastInDim S8192x1 ![] bcast_S_S8192x1 main_cst_31
  let main_v107 : FVec F S8192x1 .f32 := addf main_v103 main_v106
  let main_v108 : FVec F S8192x1 .f32 := Host.sqrt main_v107
  let main_v109 : FVec F S8192x2048 .f32 := broadcastInDim S8192x2048 ![0, 1] bcast_S8192x1_S8192x2048_0_1 main_v108
  fn_part6 (F := F) main_arg7 main_arg8 main_arg9 main_arg10 main_v53 main_v105 main_v109

def fn_part4 {F : FTy → Type} [FloatOps F] (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x1024 .f32) (main_arg10 : FVec F S1024 .f32) (main_v53 : IVec S_ 1) (main_v57 : FVec F S8192x2048 .f32) (main_v68 : FVec F S8192x1 .f32) (main_v69 : FVec F S8192x2048 .f32) : IVec S_ 1 :=
  let main_v70 : FVec F S8192x2048 .f32 := subf main_v57 main_v69
  let main_cst_24 : FVec F S_ .f32 := constant S_ .f32 0x3727C5AC#32
  let main_v71 : FVec F S8192x1 .f32 := broadcastInDim S8192x1 ![] bcast_S_S8192x1 main_cst_24
  let main_v72 : FVec F S8192x1 .f32 := addf main_v68 main_v71
  let main_v73 : FVec F S8192x1 .f32 := Host.sqrt main_v72
  let main_v74 : FVec F S8192x2048 .f32 := broadcastInDim S8192x2048 ![0, 1] bcast_S8192x1_S8192x2048_0_1 main_v73
  let main_v75 : FVec F S8192x2048 .f32 := Host.divf main_v70 main_v74
  let main_v76 : FVec F S1x2048 .f32 := broadcastInDim S1x2048 ![1] bcast_S2048_S1x2048_1 main_arg3
  let main_v77 : FVec F S8192x2048 .f32 := broadcastInDim S8192x2048 ![0, 1] bcast_S1x2048_S8192x2048_0_1 main_v76
  let main_v78 : FVec F S8192x2048 .f32 := mulf main_v75 main_v77
  let main_v79 : FVec F S1x2048 .f32 := broadcastInDim S1x2048 ![1] bcast_S2048_S1x2048_1 main_arg4
  let main_v80 : FVec F S8192x2048 .f32 := broadcastInDim S8192x2048 ![0, 1] bcast_S1x2048_S8192x2048_0_1 main_v79
  let main_v81 : FVec F S8192x2048 .f32 := addf main_v78 main_v80
  let main_cst_25 : FVec F S_ .f32 := constant S_ .f32 0x3F000000#32
  let main_v82 : FVec F S8192x2048 .f32 := broadcastInDim S8192x2048 ![] bcast_S_S8192x2048 main_cst_25
  let main_v83 : FVec F S8192x2048 .f32 := mulf main_v82 main_v81
  let main_v84 : FVec F S8192x2048 .f32 := Host.negf main_v81
  let main_cst_26 : FVec F S_ .f32 := constant S_ .f32 0x3F3504F3#32
  let main_v85 : FVec F S8192x2048 .f32 := broadcastInDim S8192x2048 ![] bcast_S_S8192x2048 main_cst_26
  let main_v86 : FVec F S8192x2048 .f32 := mulf main_v84 main_v85
  let main_v87 : FVec F S8192x2048 .f32 := Host.erfc main_v86
  let main_v88 : FVec F S8192x2048 .f32 := mulf main_v83 main_v87
  let main_v89 : FVec F S8192x2048 .f32 := (fun l r => Host.dotGeneral dot_S8192x2048_S2048x2048_S8192x2048_1_0_0_1_n_n none l r) main_v88 main_arg5
  let main_v90 : FVec F S1x2048 .f32 := broadcastInDim S1x2048 ![1] bcast_S2048_S1x2048_1 main_arg6
  fn_part5 (F := F) main_arg7 main_arg8 main_arg9 main_arg10 main_v53 main_v89 main_v90

def fn_part3 {F : FTy → Type} [FloatOps F] (main_arg0 : FVec F S8192x4096 .f32) (main_arg1 : FVec F S4096x2048 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x1024 .f32) (main_arg10 : FVec F S1024 .f32) (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  let main_v54 : FVec F S8192x2048 .f32 := (fun l r => Host.dotGeneral dot_S8192x4096_S4096x2048_S8192x2048_1_0_0_1_n_n none l r) main_arg0 main_arg1
  let main_v55 : FVec F S1x2048 .f32 := broadcastInDim S1x2048 ![1] bcast_S2048_S1x2048_1 main_arg2
  let main_v56 : FVec F S8192x2048 .f32 := broadcastInDim S8192x2048 ![0, 1] bcast_S1x2048_S8192x2048_0_1 main_v55
  let main_v57 : FVec F S8192x2048 .f32 := addf main_v54 main_v56
  let main_cst_20 : FVec F S_ .f32 := constant S_ .f32 0x00000000#32
  let main_v58 : FVec F S8192 .f32 := (fun x v => Host.reduceAdd x v reducesTo_S8192x2048_S8192_d1 h_S_) main_v57 main_cst_20
  let main_v59 : FVec F S8192x1 .f32 := broadcastInDim S8192x1 ![0] bcast_S8192_S8192x1_0 main_v58
  let main_cst_21 : FVec F S_ .f32 := constant S_ .f32 0x45000000#32
  let main_v60 : FVec F S8192x1 .f32 := broadcastInDim S8192x1 ![] bcast_S_S8192x1 main_cst_21
  let main_v61 : FVec F S8192x1 .f32 := Host.divf main_v59 main_v60
  let main_v62 : FVec F S8192x2048 .f32 := broadcastInDim S8192x2048 ![0, 1] bcast_S8192x1_S8192x2048_0_1 main_v61
  let main_v63 : FVec F S8192x2048 .f32 := subf main_v57 main_v62
  let main_v64 : FVec F S8192x2048 .f32 := mulf main_v63 main_v63
  let main_cst_22 : FVec F S_ .f32 := constant S_ .f32 0x00000000#32
  let main_v65 : FVec F S8192 .f32 := (fun x v => Host.reduceAdd x v reducesTo_S8192x2048_S8192_d1 h_S_) main_v64 main_cst_22
  let main_v66 : FVec F S8192x1 .f32 := broadcastInDim S8192x1 ![0] bcast_S8192_S8192x1_0 main_v65
  let main_cst_23 : FVec F S_ .f32 := constant S_ .f32 0x45000000#32
  let main_v67 : FVec F S8192x1 .f32 := broadcastInDim S8192x1 ![] bcast_S_S8192x1 main_cst_23
  let main_v68 : FVec F S8192x1 .f32 := Host.divf main_v66 main_v67
  let main_v69 : FVec F S8192x2048 .f32 := broadcastInDim S8192x2048 ![0, 1] bcast_S8192x1_S8192x2048_0_1 main_v61
  fn_part4 (F := F) main_arg3 main_arg4 main_arg5 main_arg6 main_arg7 main_arg8 main_arg9 main_arg10 main_v53 main_v57 main_v68 main_v69

def fn_part2 {F : FTy → Type} [FloatOps F] (main_arg0 : FVec F S8192x4096 .f32) (main_arg1 : FVec F S4096x2048 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x1024 .f32) (main_arg10 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2048 .f32 := Host.absf main_arg8
  let main_cst_14 : FVec F S_ .f32 := constant S_ .f32 0x7F800000#32
  let main_v33 : FVec F S2048 .f32 := broadcastInDim S2048 ![] bcast_S_S2048 main_cst_14
  let main_v34 : IVec S2048 1 := cmpf .olt main_v32 main_v33
  let main_c_15 : IVec S_ 1 := constantI S_ 1 1#1
  let main_v35 : IVec S_ 1 := (fun x v => Host.reduce IntOp.andi x v reducesTo_S2048_S_d0 h_S_) main_v34 main_c_15
  let main_v36 : FVec F S2048x1024 .f32 := Host.absf main_arg9
  let main_cst_16 : FVec F S_ .f32 := constant S_ .f32 0x7F800000#32
  let main_v37 : FVec F S2048x1024 .f32 := broadcastInDim S2048x1024 ![] bcast_S_S2048x1024 main_cst_16
  let main_v38 : IVec S2048x1024 1 := cmpf .olt main_v36 main_v37
  let main_c_17 : IVec S_ 1 := constantI S_ 1 1#1
  let main_v39 : IVec S_ 1 := (fun x v => Host.reduce IntOp.andi x v reducesTo_S2048x1024_S_d0_1 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_arg0 main_arg1 main_arg2 main_arg3 main_arg4 main_arg5 main_arg6 main_arg7 main_arg8 main_arg9 main_arg10 main_v31 main_v35 main_v39 main_v43 main_v49

def fn_part1 {F : FTy → Type} [FloatOps F] (main_arg0 : FVec F S8192x4096 .f32) (main_arg1 : FVec F S4096x2048 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x1024 .f32) (main_arg10 : FVec F S1024 .f32) (main_v3 : IVec S_ 1) (main_v7 : IVec S_ 1) (main_v11 : IVec S_ 1) (main_v15 : IVec S_ 1) : IVec S_ 1 :=
  let main_v16 : FVec F S2048 .f32 := Host.absf main_arg4
  let main_cst_6 : FVec F S_ .f32 := constant S_ .f32 0x7F800000#32
  let main_v17 : FVec F S2048 .f32 := broadcastInDim S2048 ![] bcast_S_S2048 main_cst_6
  let main_v18 : IVec S2048 1 := cmpf .olt main_v16 main_v17
  let main_c_7 : IVec S_ 1 := constantI S_ 1 1#1
  let main_v19 : IVec S_ 1 := (fun x v => Host.reduce IntOp.andi x v reducesTo_S2048_S_d0 h_S_) main_v18 main_c_7
  let main_v20 : FVec F S2048x2048 .f32 := Host.absf main_arg5
  let main_cst_8 : FVec F S_ .f32 := constant S_ .f32 0x7F800000#32
  let main_v21 : FVec F S2048x2048 .f32 := broadcastInDim S2048x2048 ![] bcast_S_S2048x2048 main_cst_8
  let main_v22 : IVec S2048x2048 1 := cmpf .olt main_v20 main_v21
  let main_c_9 : IVec S_ 1 := constantI S_ 1 1#1
  let main_v23 : IVec S_ 1 := (fun x v => Host.reduce IntOp.andi x v reducesTo_S2048x2048_S_d0_1 h_S_) main_v22 main_c_9
  let main_v24 : FVec F S2048 .f32 := Host.absf main_arg6
  let main_cst_10 : FVec F S_ .f32 := constant S_ .f32 0x7F800000#32
  let main_v25 : FVec F S2048 .f32 := broadcastInDim S2048 ![] bcast_S_S2048 main_cst_10
  let main_v26 : IVec S2048 1 := cmpf .olt main_v24 main_v25
  let main_c_11 : IVec S_ 1 := constantI S_ 1 1#1
  let main_v27 : IVec S_ 1 := (fun x v => Host.reduce IntOp.andi x v reducesTo_S2048_S_d0 h_S_) main_v26 main_c_11
  let main_v28 : FVec F S2048 .f32 := Host.absf main_arg7
  let main_cst_12 : FVec F S_ .f32 := constant S_ .f32 0x7F800000#32
  let main_v29 : FVec F S2048 .f32 := broadcastInDim S2048 ![] bcast_S_S2048 main_cst_12
  let main_v30 : IVec S2048 1 := cmpf .olt main_v28 main_v29
  let main_c_13 : IVec S_ 1 := constantI S_ 1 1#1
  let main_v31 : IVec S_ 1 := (fun x v => Host.reduce IntOp.andi x v reducesTo_S2048_S_d0 h_S_) main_v30 main_c_13
  fn_part2 (F := F) main_arg0 main_arg1 main_arg2 main_arg3 main_arg4 main_arg5 main_arg6 main_arg7 main_arg8 main_arg9 main_arg10 main_v3 main_v7 main_v11 main_v15 main_v19 main_v23 main_v27 main_v31

def fn {F : FTy → Type} [FloatOps F] (main_arg0 : FVec F S8192x4096 .f32) (main_arg1 : FVec F S4096x2048 .f32) (main_arg2 : FVec F S2048 .f32) (main_arg3 : FVec F S2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x1024 .f32) (main_arg10 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S2048 .f32 := Host.absf main_arg3
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg0 main_arg1 main_arg2 main_arg3 main_arg4 main_arg5 main_arg6 main_arg7 main_arg8 main_arg9 main_arg10 main_v3 main_v7 main_v11 main_v15
-- ==== Kernel.lean ====
abbrev S8192x4096 : Shape := ⟨2, ![8192, 4096]⟩
abbrev S4096x2048 : Shape := ⟨2, ![4096, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1x2048 : Shape := ⟨2, ![1, 2048]⟩
abbrev S1x1024 : Shape := ⟨2, ![1, 1024]⟩
abbrev S8192x1024 : Shape := ⟨2, ![8192, 1024]⟩
abbrev S8192x16x64 : Shape := ⟨3, ![8192, 16, 64]⟩
abbrev S256x4096 : Shape := ⟨2, ![256, 4096]⟩
abbrev S256x1024 : Shape := ⟨2, ![256, 1024]⟩
abbrev S4096x256 : Shape := ⟨2, ![4096, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S4x64x256 : Shape := ⟨3, ![4, 64, 256]⟩
abbrev S4x256 : Shape := ⟨2, ![4, 256]⟩
abbrev S4x1x256 : Shape := ⟨3, ![4, 1, 256]⟩

abbrev nBuf : Space → Nat
  | .hbm => 25
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048x1024, .f32⟩
  | .hbm, ⟨10, _⟩ => ⟨S1024, .f32⟩
  | .hbm, ⟨11, _⟩ => ⟨S4096x2048, .bf16⟩
  | .hbm, ⟨12, _⟩ => ⟨S2048x2048, .bf16⟩
  | .hbm, ⟨13, _⟩ => ⟨S2048x1024, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x16x64, .f32⟩
  | .hbm, ⟨24, _⟩ => ⟨S8192x16x64, .f32⟩
  | .local _ .vmem, ⟨0, _⟩ => ⟨S256x4096, .f32⟩
  | .local _ .vmem, ⟨1, _⟩ => ⟨S256x4096, .f32⟩
  | .local _ .vmem, ⟨2, _⟩ => ⟨S4096x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10_0 : Ref sig .tc := ⟨.hbm, 21, rfl⟩
abbrev main_call0_v10_1 : Ref sig .tc := ⟨.hbm, 22, rfl⟩
abbrev main_v0_0 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x4096 : Shape := ⟨2, ![8192, 4096]⟩
abbrev S4096x2048 : Shape := ⟨2, ![4096, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S8192x16x64 : Shape := ⟨3, ![8192, 16, 64]⟩
abbrev S8192x16x8 : Shape := ⟨3, ![8192, 16, 8]⟩
abbrev S8192x16x8x1 : Shape := ⟨4, ![8192, 16, 8, 1]⟩
abbrev S64 : Shape := ⟨1, ![64]⟩
abbrev S1x1x1x64 : Shape := ⟨4, ![1, 1, 1, 64]⟩
abbrev S8192x16x8x64 : Shape := ⟨4, ![8192, 16, 8, 64]⟩
abbrev S8192x16 : Shape := ⟨2, ![8192, 16]⟩
abbrev S8192x16x1 : Shape := ⟨3, ![8192, 16, 1]⟩

abbrev nBuf : Space → Nat
  | .hbm => 145
  | .vmem => 0
  | .smem => 0
  | _ => 0

abbrev hbmTy0_0 (i : Nat) : BufTy := match i % 128 with
  | 0 => ⟨S8192x4096, .f32⟩
  | 1 => ⟨S4096x2048, .f32⟩
  | 2 => ⟨S2048, .f32⟩
  | 3 => ⟨S2048, .f32⟩
  | 4 => ⟨S2048, .f32⟩
  | 5 => ⟨S2048x2048, .f32⟩
  | 6 => ⟨S2048, .f32⟩
  | 7 => ⟨S2048, .f32⟩
  | 8 => ⟨S2048, .f32⟩
  | 9 => ⟨S2048x1024, .f32⟩
  | 10 => ⟨S1024, .f32⟩
  | 11 => ⟨S8192x2048, .f32⟩
  | 12 => ⟨S1x2048, .f32⟩
  | 13 => ⟨S8192x2048, .f32⟩
  | 14 => ⟨S8192x2048, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x2048, .f32⟩
  | 22 => ⟨S8192x2048, .f32⟩
  | 23 => ⟨S8192x2048, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S_, .f32⟩
  | 33 => ⟨S8192x1, .f32⟩
  | 34 => ⟨S8192x1, .f32⟩
  | 35 => ⟨S8192x1, .f32⟩
  | 36 => ⟨S8192x2048, .f32⟩
  | 37 => ⟨S8192x2048, .f32⟩
  | 38 => ⟨S1x2048, .f32⟩
  | 39 => ⟨S8192x2048, .f32⟩
  | 40 => ⟨S8192x2048, .f32⟩
  | 41 => ⟨S1x2048, .f32⟩
  | 42 => ⟨S8192x2048, .f32⟩
  | 43 => ⟨S8192x2048, .f32⟩
  | 44 => ⟨S_, .f32⟩
  | 45 => ⟨S8192x2048, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S8192x2048, .f32⟩
  | 52 => ⟨S8192x2048, .f32⟩
  | 53 => ⟨S8192x2048, .f32⟩
  | 54 => ⟨S1x2048, .f32⟩
  | 55 => ⟨S8192x2048, .f32⟩
  | 56 => ⟨S8192x2048, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S8192x2048, .f32⟩
  | 64 => ⟨S8192x2048, .f32⟩
  | 65 => ⟨S8192x2048, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x2048, .f32⟩
  | 73 => ⟨S8192x2048, .f32⟩
  | 74 => ⟨S_, .f32⟩
  | 75 => ⟨S8192x1, .f32⟩
  | 76 => ⟨S8192x1, .f32⟩
  | 77 => ⟨S8192x1, .f32⟩
  | 78 => ⟨S8192x2048, .f32⟩
  | 79 => ⟨S8192x2048, .f32⟩
  | 80 => ⟨S1x2048, .f32⟩
  | 81 => ⟨S8192x2048, .f32⟩
  | 82 => ⟨S8192x2048, .f32⟩
  | 83 => ⟨S1x2048, .f32⟩
  | 84 => ⟨S8192x2048, .f32⟩
  | 85 => ⟨S8192x2048, .f32⟩
  | 86 => ⟨S_, .f32⟩
  | 87 => ⟨S8192x2048, .f32⟩
  | 88 => ⟨S8192x2048, .f32⟩
  | 89 => ⟨S8192x2048, .f32⟩
  | 90 => ⟨S_, .f32⟩
  | 91 => ⟨S8192x2048, .f32⟩
  | 92 => ⟨S8192x2048, .f32⟩
  | 93 => ⟨S8192x2048, .f32⟩
  | 94 => ⟨S8192x2048, .f32⟩
  | 95 => ⟨S8192x1024, .f32⟩
  | 96 => ⟨S1x1024, .f32⟩
  | 97 => ⟨S8192x1024, .f32⟩
  | 98 => ⟨S8192x1024, .f32⟩
  | 99 => ⟨S8192x16x64, .f32⟩
  | 100 => ⟨S8192x16x8, .f32⟩
  | 101 => ⟨S8192x16x8, .i32⟩
  | 102 => ⟨S8192x16x8x1, .i32⟩
  | 103 => ⟨S64, .i32⟩
  | 104 => ⟨S1x1x1x64, .i32⟩
  | 105 => ⟨S8192x16x8x64, .i32⟩
  | 106 => ⟨S8192x16x8x64, .i32⟩
  | 107 => ⟨S8192x16x8x64, .i1⟩
  | 108 => ⟨S_, .i1⟩
  | 109 => ⟨S8192x16x64, .i1⟩
  | 110 => ⟨S_, .f32⟩
  | 111 => ⟨S_, .f32⟩
  | 112 => ⟨S8192x16x64, .f32⟩
  | 113 => ⟨S8192x16x64, .f32⟩
  | 114 => ⟨S_, .f32⟩
  | 115 => ⟨S8192x16, .f32⟩
  | 116 => ⟨S_, .f32⟩
  | 117 => ⟨S8192x16, .f32⟩
  | 118 => ⟨S8192x16, .f32⟩
  | 119 => ⟨S8192x16x1, .f32⟩
  | 120 => ⟨S8192x16x64, .f32⟩
  | 121 => ⟨S8192x16x64, .f32⟩
  | 122 => ⟨S8192x16x64, .f32⟩
  | 123 => ⟨S_, .f32⟩
  | 124 => ⟨S8192x16, .f32⟩
  | 125 => ⟨S8192x16x1, .f32⟩
  | 126 => ⟨S8192x16x64, .f32⟩
  | 127 => ⟨S8192x16x64, .f32⟩
  | _ => ⟨S8192x4096, .f32⟩

abbrev hbmTy0_1 (i : Nat) : BufTy := match i % 128 with
  | 0 => ⟨S_, .f32⟩
  | 1 => ⟨S8192x16x64, .i1⟩
  | 2 => ⟨S_, .f32⟩
  | 3 => ⟨S8192x16x64, .f32⟩
  | 4 => ⟨S8192x16x64, .f32⟩
  | 5 => ⟨S_, .f32⟩
  | 6 => ⟨S8192x16x64, .f32⟩
  | 7 => ⟨S8192x16x64, .i1⟩
  | 8 => ⟨S_, .f32⟩
  | 9 => ⟨S8192x16x64, .f32⟩
  | 10 => ⟨S8192x16x64, .f32⟩
  | 11 => ⟨S_, .f32⟩
  | 12 => ⟨S8192x16x64, .f32⟩
  | 13 => ⟨S8192x16x64, .i1⟩
  | 14 => ⟨S_, .f32⟩
  | 15 => ⟨S8192x16x64, .f32⟩
  | 16 => ⟨S8192x16x64, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_values : Ref sig .tc := ⟨.hbm, 100, rfl⟩
abbrev main_indices : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c : Ref sig .tc := ⟨.hbm, 108, rfl⟩
abbrev main_v81 : Ref sig .tc := ⟨.hbm, 109, rfl⟩
abbrev main_cst_13 : Ref sig .tc := ⟨.hbm, 110, rfl⟩
abbrev main_call0_v0 : Ref sig .tc := ⟨.hbm, 111, rfl⟩
abbrev main_call0_v1 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_call1_v0 : Ref sig .tc := ⟨.hbm, 129, rfl⟩
abbrev main_call1_v1 : Ref sig .tc := ⟨.hbm, 130, rfl⟩
abbrev main_call1_call0_v0 : Ref sig .tc := ⟨.hbm, 131, rfl⟩
abbrev main_call1_v2 : Ref sig .tc := ⟨.hbm, 132, rfl⟩
abbrev main_call1_cst : Ref sig .tc := ⟨.hbm, 133, rfl⟩
abbrev main_call1_v3 : Ref sig .tc := ⟨.hbm, 134, rfl⟩
abbrev main_call1_v4 : Ref sig .tc := ⟨.hbm, 135, rfl⟩
abbrev main_call1_cst_0 : Ref sig .tc := ⟨.hbm, 136, rfl⟩
abbrev main_call1_call1_v0 : Ref sig .tc := ⟨.hbm, 137, rfl⟩
abbrev main_call1_v5 : Ref sig .tc := ⟨.hbm, 138, rfl⟩
abbrev main_call1_cst_1 : Ref sig .tc := ⟨.hbm, 139, rfl⟩
abbrev main_call1_v6 : Ref sig .tc := ⟨.hbm, 140, rfl⟩
abbrev main_call1_v7 : Ref sig .tc := ⟨.hbm, 141, rfl⟩
abbrev main_call1_cst_2 : Ref sig .tc := ⟨.hbm, 142, rfl⟩
abbrev main_call1_call2_v0 : Ref sig .tc := ⟨.hbm, 143, rfl⟩
abbrev main_v94 : Ref sig .tc := ⟨.hbm, 144, rfl⟩

abbrev nD : Nat := 1
abbrev τ : Topo := Topo.v7x

variable {F : FTy → Type} [FloatOps F]
-- ==== Proof.RefTerms.lean ====
/- The reference's vectors by names, and its results as them. -/
module

public import proofs.«01_k».proof.Proof.Gen.ReferenceIdeal.Run

@[expose] public section

set_option maxRecDepth 16384

noncomputable section

namespace Cert.Proof.Ref

open Idealize.ShloMosaic Idealize.SL.Sem
open Cert.ReferenceIdeal Cert.ReferenceIdeal.Gen Cert.ReferenceIdeal.Value

variable {F : FTy → Type} [FloatOps F]

/-- A row of 2048 repeated down the rows. -/
def repeated (b : FVec F S2048 .f32) : FVec F S8192x2048 .f32 :=
  broadcastInDim S8192x2048 ![0, 1] bcast_S1x2048_S8192x2048_0_1 (broadcastInDim S1x2048 ![1] bcast_S2048_S1x2048_1 b)

/-- The first hidden layer before its normalisation. -/
def hidden1 (x : FVec F S8192x4096 .f32) (w : FVec F S4096x2048 .f32) (b : FVec F S2048 .f32) : FVec F S8192x2048 .f32 :=
  addf (Host.dotGeneral dot_S8192x4096_S4096x2048_S8192x2048_1_0_0_1_n_n none x w) (repeated b)

/-- The second hidden layer before its normalisation. -/
def hidden2 (x : FVec F S8192x2048 .f32) (w : FVec F S2048x2048 .f32) (b : FVec F S2048 .f32) : FVec F S8192x2048 .f32 :=
  addf (Host.dotGeneral dot_S8192x2048_S2048x2048_S8192x2048_1_0_0_1_n_n none x w) (repeated b)

/-- The last layer, one row a token. -/
def last (x : FVec F S8192x2048 .f32) (w : FVec F S2048x1024 .f32) (b : FVec F S1024 .f32) : FVec F S8192x1024 .f32 :=
  addf (Host.dotGeneral dot_S8192x2048_S2048x1024_S8192x1024_1_0_0_1_n_n none x w)
    (broadcastInDim S8192x1024 ![0, 1] bcast_S1x1024_S8192x1024_0_1 (broadcastInDim S1x1024 ![1] bcast_S1024_S1x1024_1 b))

/-- The mean of each row. -/
def mean (h : FVec F S8192x2048 .f32) : FVec F S8192x1 .f32 :=
  Host.divf (broadcastInDim S8192x1 ![0] bcast_S8192_S8192x1_0
      (Host.reduceAdd h (constant S_ .f32 0x00000000#32) reducesTo_S8192x2048_S8192_d1 h_S_))
    (broadcastInDim S8192x1 ![] bcast_S_S8192x1 (constant S_ .f32 0x45000000#32))

/-- Each row less its mean. -/
def centred (h : FVec F S8192x2048 .f32) : FVec F S8192x2048 .f32 :=
  subf h (broadcastInDim S8192x2048 ![0, 1] bcast_S8192x1_S8192x2048_0_1 (mean h))

/-- The normalised rows, scaled and shifted. -/
def normed (h : FVec F S8192x2048 .f32) (g b : FVec F S2048 .f32) : FVec F S8192x2048 .f32 :=
  addf (mulf (Host.divf (centred h) (broadcastInDim S8192x2048 ![0, 1] bcast_S8192x1_S8192x2048_0_1
      (Host.sqrt (addf (mean (mulf (centred h) (centred h)))
        (broadcastInDim S8192x1 ![] bcast_S_S8192x1 (constant S_ .f32 0x3727C5AC#32)))))) (repeated g)) (repeated b)

/-- The activation. -/
def gelu (t : FVec F S8192x2048 .f32) : FVec F S8192x2048 .f32 :=
  mulf (mulf (broadcastInDim S8192x2048 ![] bcast_S_S8192x2048 (constant S_ .f32 0x3F000000#32)) t)
    (Host.erfc (mulf (Host.negf t) (broadcastInDim S8192x2048 ![] bcast_S_S8192x2048 (constant S_ .f32 0x3F3504F3#32))))

/-- The logits, one row a token. -/
def rows (x0 : FVec F S8192x4096 .f32) (x1 : FVec F S4096x2048 .f32) (x2 x3 x4 : FVec F S2048 .f32)
    (x5 : FVec F S2048x2048 .f32) (x6 x7 x8 : FVec F S2048 .f32) (x9 : FVec F S2048x1024 .f32) (x10 : FVec F S1024 .f32) :
    FVec F S8192x1024 .f32 :=
  last (gelu (normed (hidden2 (gelu (normed (hidden1 x0 x1 x2) x3 x4)) x5 x6) x7 x8)) x9 x10

/-- The logits by token, head and entry. -/
def logits (x0 : FVec F S8192x4096 .f32) (x1 : FVec F S4096x2048 .f32) (x2 x3 x4 : FVec F S2048 .f32)
    (x5 : FVec F S2048x2048 .f32) (x6 x7 x8 : FVec F S2048 .f32) (x9 : FVec F S2048x1024 .f32) (x10 : FVec F S1024 .f32) :
    FVec F S8192x16x64 .f32 :=
  shapeCast _ (rows x0 x1 x2 x3 x4 x5 x6 x7 x8 x9 x10) shapeCasts_S8192x1024_S8192x16x64

/-- The positions of the eight greatest logits of each head. -/
def places (l : FVec F S8192x16x64 .f32) : IVec S8192x16x8 32 :=
  (Host.topK S8192x16x8 2 (FloatOps.cmpfTotal .gt) l sliceFits_S8192x16x64_S8192x16x8).2

/-- Whether a position is among the given eight. -/
def among (p : IVec S8192x16x8 32) : IVec S8192x16x64 1 :=
  Host.reduce IntOp.ori (cmpi .eq (broadcastInDim S8192x16x8x64 ![0, 1, 2, 3] bcast_S8192x16x8x1_S8192x16x8x64_0_1_2_3
      (broadcastInDim S8192x16x8x1 ![0, 1, 2] bcast_S8192x16x8_S8192x16x8x1_0_1_2 p))
    (broadcastInDim S8192x16x8x64 ![0, 1, 2, 3] bcast_S1x1x1x64_S8192x16x8x64_0_1_2_3
      (broadcastInDim S1x1x1x64 ![3] bcast_S64_S1x1x1x64_3 (iotaInDim S64 32 0))))
    (constantI S_ 1 0#1) reducesTo_S8192x16x8x64_S8192x16x64_d2 h_S_

/-- The logits outside a mask replaced by minus infinity. -/
def masked (k : IVec S8192x16x64 1) (l : FVec F S8192x16x64 .f32) : FVec F S8192x16x64 .f32 :=
  select k l (broadcastInDim S8192x16x64 ![] bcast_S_S8192x16x64 (id (constant S_ .f32 0xFF800000#32)))

/-- A value of each head repeated over its entries. -/
def overHead (v : FVec F S8192x16 .f32) : FVec F S8192x16x64 .f32 :=
  broadcastInDim S8192x16x64 ![0, 1, 2] bcast_S8192x16x1_S8192x16x64_0_1_2
    (broadcastInDim S8192x16x1 ![0, 1] bcast_S8192x16_S8192x16x1_0_1 v)

/-- Each head's greatest entry, from minus infinity. -/
def headTop (l : FVec F S8192x16x64 .f32) : FVec F S8192x16 .f32 :=
  Host.reduce FloatOps.maximumf l (constant S_ .f32 0xFF800000#32) reducesTo_S8192x16x64_S8192x16_d2 h_S_

/-- The exponentials of each head less a value of it. -/
def expLess (l : FVec F S8192x16x64 .f32) (m : FVec F S8192x16 .f32) : FVec F S8192x16x64 .f32 :=
  Host.exp (subf l (overHead
    (maximumf (broadcastInDim S8192x16 ![] bcast_S_S8192x16 (constant S_ .f32 0xFF800000#32)) m)))

/-- The shifted exponentials of each head. -/
def exps (l : FVec F S8192x16x64 .f32) : FVec F S8192x16x64 .f32 := expLess l (headTop l)

/-- Each head's sum. -/
def headSum (l : FVec F S8192x16x64 .f32) : FVec F S8192x16 .f32 :=
  Host.reduceAdd l (constant S_ .f32 0x00000000#32) reducesTo_S8192x16x64_S8192x16_d2 h_S_

/-- The softmax of each head. -/
def softmax (l : FVec F S8192x16x64 .f32) : FVec F S8192x16x64 .f32 :=
  Host.divf (exps l) (overHead (headSum (exps l)))

/-- Entries that are no number replaced by zero. -/
def noNan (p : FVec F S8192x16x64 .f32) : FVec F S8192x16x64 .f32 :=
  select (cmpf .une p p) (broadcastInDim S8192x16x64 ![] bcast_S_S8192x16x64 (id (constant S_ .f32 0x00000000#32))) p

/-- Entries equal to one word replaced by another. -/
def swapped (u v : BitVec 32) (p : FVec F S8192x16x64 .f32) : FVec F S8192x16x64 .f32 :=
  select (cmpf .oeq p (broadcastInDim S8192x16x64 ![] bcast_S_S8192x16x64 (constant S_ .f32 u)))
    (broadcastInDim S8192x16x64 ![] bcast_S_S8192x16x64 (constant S_ .f32 v)) p

/-- The gates of the logits. -/
def gates (l : FVec F S8192x16x64 .f32) : FVec F S8192x16x64 .f32 :=
  swapped 0xFF800000#32 0xFF7FFFFF#32 (swapped 0x7F800000#32 0x7F7FFFFF#32 (noNan (softmax (masked (among (places l)) l))))

section
variable (V : Valuation τ sig (Elt F))

theorem v27_eq : res_main_v27 V = normed (hidden1 (V (Proc.devRef .tc main_arg0)) (V (Proc.devRef .tc main_arg1))
    (V (Proc.devRef .tc main_arg2))) (V (Proc.devRef .tc main_arg3)) (V (Proc.devRef .tc main_arg4)) := rfl

theorem v38_eq : res_main_v38 V = hidden2 (gelu (res_main_v27 V)) (V (Proc.devRef .tc main_arg5))
    (V (Proc.devRef .tc main_arg6)) := rfl

theorem v62_eq : res_main_v62 V = normed (res_main_v38 V) (V (Proc.devRef .tc main_arg7)) (V (Proc.devRef .tc main_arg8)) := rfl

theorem v74_eq' : res_main_v74 V = shapeCast _ (last (gelu (res_main_v62 V)) (V (Proc.devRef .tc main_arg9))
    (V (Proc.devRef .tc main_arg10))) shapeCasts_S8192x1024_S8192x16x64 := rfl

/-- The first result. -/
theorem v74_eq : res_main_v74 V = logits (V (Proc.devRef .tc main_arg0)) (V (Proc.devRef .tc main_arg1))
    (V (Proc.devRef .tc main_arg2)) (V (Proc.devRef .tc main_arg3)) (V (Proc.devRef .tc main_arg4))
    (V (Proc.devRef .tc main_arg5)) (V (Proc.devRef .tc main_arg6)) (V (Proc.devRef .tc main_arg7))
    (V (Proc.devRef .tc main_arg8)) (V (Proc.devRef .tc main_arg9)) (V (Proc.devRef .tc main_arg10)) := by
  rw [v74_eq', v62_eq, v38_eq, v27_eq, logits, rows]

theorem v82_eq : res_main_v82 V = masked (among (places (res_main_v74 V))) (res_main_v74 V) := rfl

theorem v89_eq : res_main_v89 V = exps (res_main_v82 V) := rfl

theorem v93_eq : res_main_v93 V = softmax (res_main_v82 V) := rfl

theorem call1_v5_eq : res_main_call1_v5 V = swapped 0x7F800000#32 0x7F7FFFFF#32 (noNan (res_main_v93 V)) := rfl

/-- The second result. -/
theorem v94_eq : select (cmpf .oeq (res_main_call1_v5 V) (broadcastInDim S8192x16x64 ![] bcast_S_S8192x16x64
      (constant S_ .f32 0xFF800000#32))) (broadcastInDim S8192x16x64 ![] bcast_S_S8192x16x64 (constant S_ .f32 0xFF7FFFFF#32))
      (res_main_call1_v5 V) = gates (res_main_v74 V) := by
  rw [gates, ← v82_eq, ← v93_eq, ← call1_v5_eq]
  rfl
end

end Cert.Proof.Ref

end
-- ==== Proof.Block.lean ====
/- One block of the kernel, written once: a dense layer, the row statistics over eight column chunks, the
   normalised and activated chunk, a chunked product, and the eight rounds of a head's selection; and the named
   values of the body as these. -/
module

public import proofs.«01_k».proof.Proof.Gen.KernelIdeal.Frame

@[expose] public section

set_option maxRecDepth 16384

noncomputable section

namespace Cert.Proof

open Idealize.ShloMosaic Idealize.SL.Sem
open Cert.KernelIdeal Cert.KernelIdeal.Gen

variable {F : FTy → Type} [FloatOps F]

/-- A chunk plus its bias row. -/
def biased (a : FVec F S256x256 .f32) (b : Vec F S1x256 .f32) : FVec F S256x256 .f32 :=
  addf a (broadcastTo S256x256 (shapeCast S1x256 b shapeCasts_S1x256_S1x256) broadcasts_S1x256_S256x256)

/-- One chunk of the first layer. -/
def dense (x : Vec F S256x4096 .f32) (w : Vec F S4096x256 .bf16) (b : Vec F S1x256 .f32) : FVec F S256x256 .f32 :=
  biased (matmul dot_S256x4096_S4096x256_S256x256_1_0_0_1_n_n none (truncf .bf16 x bitsLt_bf16_f32)
    (shapeCast S4096x256 w shapeCasts_S4096x256_S4096x256) (constant S256x256 .f32 0x00000000#32)) b

/-- One product of an activated chunk with a square of weights. -/
def prod (a : FVec F S256x256 .bf16) (w : Vec F S256x256 .bf16) : FVec F S256x256 .f32 :=
  matmul dot_S256x256_S256x256_S256x256_1_0_0_1_n_n none a (shapeCast S256x256 w shapeCasts_S256x256_S256x256)
    (constant S256x256 .f32 0x00000000#32)

/-- One chunk of a later layer: the eight products added in order, and the bias. -/
def prods (a : Fin 8 → FVec F S256x256 .bf16) (w : Fin 8 → Vec F S256x256 .bf16) (b : Vec F S1x256 .f32) :
    FVec F S256x256 .f32 :=
  biased (addf (addf (addf (addf (addf (addf (addf (prod (a 0) (w 0)) (prod (a 1) (w 1))) (prod (a 2) (w 2)))
    (prod (a 3) (w 3))) (prod (a 4) (w 4))) (prod (a 5) (w 5))) (prod (a 6) (w 6))) (prod (a 7) (w 7))) b

/-- The sum of each row of a chunk, as a column. -/
def rowSum (h : FVec F S256x256 .f32) : FVec F S256x1 .f32 :=
  shapeCast S256x1 (multiReduction .add [1] S256 h 0x00000000#32 reduces_S256x256_S256 (.inl rfl) rfl)
    shapeCasts_S256_S256x1

/-- The sum of each row over the eight chunks. -/
def rowSums (h : Fin 8 → FVec F S256x256 .f32) : FVec F S256x1 .f32 :=
  addf (addf (addf (addf (addf (addf (addf (addf (broadcast S256x1 (Scalar.ofBits .f32 0x00000000#32)) (rowSum (h 0)))
    (rowSum (h 1))) (rowSum (h 2))) (rowSum (h 3))) (rowSum (h 4))) (rowSum (h 5))) (rowSum (h 6))) (rowSum (h 7))

/-- The sum of the squares of each row over the eight chunks. -/
def sqSums (h : Fin 8 → FVec F S256x256 .f32) : FVec F S256x1 .f32 := rowSums fun c => mulf (h c) (h c)

/-- The mean of each row. -/
def rowMean (h : Fin 8 → FVec F S256x256 .f32) : FVec F S256x1 .f32 :=
  mulf (rowSums h) (broadcast S256x1 (Scalar.ofBits .f32 0x3A000000#32))

/-- One over the square root of the variance of each row, the variance the mean of squares less the squared mean. -/
def rowScale (h : Fin 8 → FVec F S256x256 .f32) : FVec F S256x1 .f32 :=
  rsqrt (addf (subf (mulf (sqSums h) (broadcast S256x1 (Scalar.ofBits .f32 0x3A000000#32))) (mulf (rowMean h) (rowMean h)))
    (broadcast S256x1 (Scalar.ofBits .f32 0x3727C5AC#32)))

/-- A chunk normalised by a mean and a scale, then scaled and shifted by two rows. -/
def normed (h : FVec F S256x256 .f32) (mu r : FVec F S256x1 .f32) (g b : Vec F S1x256 .f32) : FVec F S256x256 .f32 :=
  addf (mulf (mulf (subf h (broadcastTo S256x256 mu broadcasts_S256x1_S256x256))
      (broadcastTo S256x256 r broadcasts_S256x1_S256x256))
      (broadcastTo S256x256 (shapeCast S1x256 g shapeCasts_S1x256_S1x256) broadcasts_S1x256_S256x256))
    (broadcastTo S256x256 (shapeCast S1x256 b shapeCasts_S1x256_S1x256) broadcasts_S1x256_S256x256)

/-- The activation of a chunk. -/
def gelu (t : FVec F S256x256 .f32) : FVec F S256x256 .bf16 :=
  truncf .bf16 (mulf (mulf (broadcast S256x256 (Scalar.ofBits .f32 0x3F000000#32)) t)
    (addf (broadcast S256x256 (Scalar.ofBits .f32 0x3F800000#32))
      (erf (mulf t (broadcast S256x256 (Scalar.ofBits .f32 0x3F3504F3#32)))))) bitsLt_bf16_f32

/-- The chunks of a layer normalised by the layer's own statistics, and activated. -/
def act (h : Fin 8 → FVec F S256x256 .f32) (g b : Fin 8 → Vec F S1x256 .f32) (c : Fin 8) : FVec F S256x256 .bf16 :=
  gelu (normed (h c) (rowMean h) (rowScale h) (g c) (b c))

/-- The greatest entry of each head. -/
def headMax (w : FVec F S4x64x256 .f32) : FVec F S4x1x256 .f32 :=
  shapeCast S4x1x256 (multiReduction .maximumf [1] S4x256 w 0xFF800000#32 reduces_S4x64x256_S4x256 (.inl rfl) rfl)
    shapeCasts_S4x256_S4x1x256

/-- One round of the selection: the greatest entries of each head are taken out. -/
def round (w : FVec F S4x64x256 .f32) : FVec F S4x64x256 .f32 :=
  select (cmpf .oeq w (broadcastTo S4x64x256 (headMax w) broadcasts_S4x1x256_S4x64x256))
    (broadcast S4x64x256 (Scalar.ofBits .f32 0xFF800000#32)) w

/-- Four heads of logits, one per group of sixty-four columns, with the rows last. -/
def heads (raw : FVec F S256x256 .f32) : FVec F S4x64x256 .f32 :=
  shapeCast S4x64x256 (transpose S256x256 [1, 0] raw transposes_S256x256_p1_0_S256x256) shapeCasts_S256x256_S4x64x256

/-- The threshold of each head: the maximum after seven rounds. -/
def threshold (lt : FVec F S4x64x256 .f32) : FVec F S4x1x256 .f32 :=
  headMax (round (round (round (round (round (round (round lt)))))))

/-- The exponentials of the entries that reach the threshold, zero elsewhere. -/
def kept (lt : FVec F S4x64x256 .f32) : FVec F S4x64x256 .f32 :=
  select (cmpf .oge lt (broadcastTo S4x64x256 (threshold lt) broadcasts_S4x1x256_S4x64x256))
    (exp (subf lt (broadcastTo S4x64x256 (headMax lt) broadcasts_S4x1x256_S4x64x256)))
    (broadcast S4x64x256 (Scalar.ofBits .f32 0x00000000#32))

/-- The gate of four heads: the kept exponentials over their sum. -/
def gates (lt : FVec F S4x64x256 .f32) : FVec F S4x64x256 .f32 :=
  divf (kept lt) (broadcastTo S4x64x256 (shapeCast S4x1x256
    (multiReduction .add [1] S4x256 (kept lt) 0x00000000#32 reduces_S4x64x256_S4x256 (.inl rfl) rfl)
    shapeCasts_S4x256_S4x1x256) broadcasts_S4x1x256_S4x64x256)

/-- The gates back in the logits' layout. -/
def unheads (p : FVec F S4x64x256 .f32) : FVec F S256x256 .f32 :=
  transpose S256x256 [1, 0] (shapeCast S256x256 p shapeCasts_S4x64x256_S256x256) transposes_S256x256_p1_0_S256x256

/-! ## The blocks' chunks -/

/-- The eight chunks of a row of 2048. -/
def cols8 (x : Vec F S1x2048 .f32) : Fin 8 → Vec F S1x256 .f32 :=
  ![View.ld x r0_2, View.ld x r0_4, View.ld x r0_6, View.ld x r0_8, View.ld x r0_10, View.ld x r0_12, View.ld x r0_14,
    View.ld x r0_16]

/-- The eight column chunks of the first weights. -/
def w1Cols (x : Vec F S4096x2048 .bf16) : Fin 8 → Vec F S4096x256 .bf16 :=
  ![View.ld x r0_1, View.ld x r0_3, View.ld x r0_5, View.ld x r0_7, View.ld x r0_9, View.ld x r0_11, View.ld x r0_13,
    View.ld x r0_15]

/-- The squares of the second weights: column chunk first, row chunk second. -/
def w2Sq (x : Vec F S2048x2048 .bf16) : Fin 8 → Fin 8 → Vec F S256x256 .bf16 :=
  ![![View.ld x r0_17, View.ld x r0_18, View.ld x r0_19, View.ld x r0_20, View.ld x r0_21, View.ld x r0_22,
      View.ld x r0_23, View.ld x r0_24],
    ![View.ld x r0_25, View.ld x r0_26, View.ld x r0_27, View.ld x r0_28, View.ld x r0_29, View.ld x r0_30,
      View.ld x r0_31, View.ld x r0_32],
    ![View.ld x r0_33, View.ld x r0_34, View.ld x r0_35, View.ld x r0_36, View.ld x r0_37, View.ld x r0_38,
      View.ld x r0_39, View.ld x r0_40],
    ![View.ld x r0_41, View.ld x r0_42, View.ld x r0_43, View.ld x r0_44, View.ld x r0_45, View.ld x r0_46,
      View.ld x r0_47, View.ld x r0_48],
    ![View.ld x r0_49, View.ld x r0_50, View.ld x r0_51, View.ld x r0_52, View.ld x r0_53, View.ld x r0_54,
      View.ld x r0_55, View.ld x r0_56],
    ![View.ld x r0_57, View.ld x r0_58, View.ld x r0_59, View.ld x r0_60, View.ld x r0_61, View.ld x r0_62,
      View.ld x r0_63, View.ld x r0_64],
    ![View.ld x r0_65, View.ld x r0_66, View.ld x r0_67, View.ld x r0_68, View.ld x r0_69, View.ld x r0_70,
      View.ld x r0_71, View.ld x r0_72],
    ![View.ld x r0_73, View.ld x r0_74, View.ld x r0_75, View.ld x r0_76, View.ld x r0_77, View.ld x r0_78,
      View.ld x r0_79, View.ld x r0_80]]

/-- The squares of the third weights: column chunk first, row chunk second. -/
def w3Sq (x : Vec F S2048x1024 .bf16) : Fin 4 → Fin 8 → Vec F S256x256 .bf16 :=
  ![![View.ld x r0_81, View.ld x r0_82, View.ld x r0_83, View.ld x r0_84, View.ld x r0_85, View.ld x r0_86,
      View.ld x r0_87, View.ld x r0_88],
    ![View.ld x r0_91, View.ld x r0_92, View.ld x r0_93, View.ld x r0_94, View.ld x r0_95, View.ld x r0_96,
      View.ld x r0_97, View.ld x r0_98],
    ![View.ld x r0_101, View.ld x r0_102, View.ld x r0_103, View.ld x r0_104, View.ld x r0_105, View.ld x r0_106,
      View.ld x r0_107, View.ld x r0_108],
    ![View.ld x r0_111, View.ld x r0_112, View.ld x r0_113, View.ld x r0_114, View.ld x r0_115, View.ld x r0_116,
      View.ld x r0_117, View.ld x r0_118]]

/-- The four chunks of a row of 1024. -/
def cols4 (x : Vec F S1x1024 .f32) : Fin 4 → Vec F S1x256 .f32 :=
  ![View.ld x r0_89, View.ld x r0_99, View.ld x r0_109, View.ld x r0_119]

/-! ## The layers of a block -/

section layers
variable (x0 : Vec F S256x4096 .f32) (x1 : Vec F S4096x2048 .bf16) (x2 x3 x4 : Vec F S1x2048 .f32)
  (x5 : Vec F S2048x2048 .bf16) (x6 x7 x8 : Vec F S1x2048 .f32) (x9 : Vec F S2048x1024 .bf16) (x10 : Vec F S1x1024 .f32)

/-- The first layer's chunks. -/
def layer1 (c : Fin 8) : FVec F S256x256 .f32 := dense (View.ld x0 r0_0) (w1Cols x1 c) (cols8 x2 c)
/-- The first layer's chunks, normalised and activated. -/
def act1 : Fin 8 → FVec F S256x256 .bf16 := act (layer1 x0 x1 x2) (cols8 x3) (cols8 x4)
/-- The second layer's chunks. -/
def layer2 (n : Fin 8) : FVec F S256x256 .f32 := prods (act1 x0 x1 x2 x3 x4) (w2Sq x5 n) (cols8 x6 n)
/-- The second layer's chunks, normalised and activated. -/
def act2 : Fin 8 → FVec F S256x256 .bf16 := act (layer2 x0 x1 x2 x3 x4 x5 x6) (cols8 x7) (cols8 x8)
/-- The third layer's chunks: the logits. -/
def layer3 (q : Fin 4) : FVec F S256x256 .f32 := prods (act2 x0 x1 x2 x3 x4 x5 x6 x7 x8) (w3Sq x9 q) (cols4 x10 q)
/-- The gates' chunks. -/
def gate (q : Fin 4) : FVec F S256x256 .f32 := unheads (gates (heads (layer3 x0 x1 x2 x3 x4 x5 x6 x7 x8 x9 x10 q)))

/-! ## The body's named values -/

/-- The body's first activated chunks. -/
theorem pay_act1 : ![k0_pay119 x0 x1 x2 x3 x4 x5 x6 x7 x8 x9 x10, k0_pay120 x0 x1 x2 x3 x4 x5 x6 x7 x8 x9 x10,
    k0_pay121 x0 x1 x2 x3 x4 x5 x6 x7 x8 x9 x10, k0_pay122 x0 x1 x2 x3 x4 x5 x6 x7 x8 x9 x10,
    k0_pay123 x0 x1 x2 x3 x4 x5 x6 x7 x8 x9 x10, k0_pay124 x0 x1 x2 x3 x4 x5 x6 x7 x8 x9 x10,
    k0_pay125 x0 x1 x2 x3 x4 x5 x6 x7 x8 x9 x10, k0_pay126 x0 x1 x2 x3 x4 x5 x6 x7 x8 x9 x10]
    = act1 x0 x1 x2 x3 x4 := by
  funext c
  fin_cases c <;> rfl

/-- The same, one by one. -/
theorem pay_act1_each : k0_pay119 x0 x1 x2 x3 x4 x5 x6 x7 x8 x9 x10 = act1 x0 x1 x2 x3 x4 0 ∧
    k0_pay120 x0 x1 x2 x3 x4 x5 x6 x7 x8 x9 x10 = act1 x0 x1 x2 x3 x4 1 ∧
    k0_pay121 x0 x1 x2 x3 x4 x5 x6 x7 x8 x9 x10 = act1 x0 x1 x2 x3 x4 2 ∧
    k0_pay122 x0 x1 x2 x3 x4 x5 x6 x7 x8 x9 x10 = act1 x0 x1 x2 x3 x4 3 ∧
    k0_pay123 x0 x1 x2 x3 x4 x5 x6 x7 x8 x9 x10 = act1 x0 x1 x2 x3 x4 4 ∧
    k0_pay124 x0 x1 x2 x3 x4 x5 x6 x7 x8 x9 x10 = act1 x0 x1 x2 x3 x4 5 ∧
    k0_pay125 x0 x1 x2 x3 x4 x5 x6 x7 x8 x9 x10 = act1 x0 x1 x2 x3 x4 6 ∧
    k0_pay126 x0 x1 x2 x3 x4 x5 x6 x7 x8 x9 x10 = act1 x0 x1 x2 x3 x4 7 :=
  have h := congrFun (pay_act1 x0 x1 x2 x3 x4 x5 x6 x7 x8 x9 x10)
  ⟨h 0, h 1, h 2, h 3, h 4, h 5, h 6, h 7⟩

/-- The body's second mean. -/
theorem pay_mean2 : k0_pay143 x0 x1 x2 x3 x4 x5 x6 x7 x8 x9 x10 = rowMean (layer2 x0 x1 x2 x3 x4 x5 x6) := by
  obtain ⟨h0, h1, h2, h3, h4, h5, h6, h7⟩ := pay_act1_each x0 x1 x2 x3 x4 x5 x6 x7 x8 x9 x10
  unfold k0_pay143 k0_pay142 k0_pay141 k0_pay139 k0_pay138 k0_pay136 k0_pay135 k0_pay134 k0_pay133 k0_pay132 k0_pay131
    k0_pay130 k0_pay129 k0_pay127
  simp only [h0, h1, h2, h3, h4, h5, h6, h7]
  unfold layer2
  generalize act1 x0 x1 x2 x3 x4 = a
  rfl

/-- The body's second scale. -/
theorem pay_scale2 : k0_pay144 x0 x1 x2 x3 x4 x5 x6 x7 x8 x9 x10 = rowScale (layer2 x0 x1 x2 x3 x4 x5 x6) := by
  obtain ⟨h0, h1, h2, h3, h4, h5, h6, h7⟩ := pay_act1_each x0 x1 x2 x3 x4 x5 x6 x7 x8 x9 x10
  unfold k0_pay144 k0_pay142 k0_pay141 k0_pay140 k0_pay139 k0_pay138 k0_pay137 k0_pay136 k0_pay135 k0_pay134 k0_pay133 k0_pay132
    k0_pay131 k0_pay130 k0_pay129 k0_pay128 k0_pay127
  simp only [h0, h1, h2, h3, h4, h5, h6, h7]
  unfold layer2
  generalize act1 x0 x1 x2 x3 x4 = a
  rfl

/-- The body's second activated chunks. -/
theorem pay_act2 : ![k0_pay145 x0 x1 x2 x3 x4 x5 x6 x7 x8 x9 x10, k0_pay146 x0 x1 x2 x3 x4 x5 x6 x7 x8 x9 x10,
    k0_pay147 x0 x1 x2 x3 x4 x5 x6 x7 x8 x9 x10, k0_pay148 x0 x1 x2 x3 x4 x5 x6 x7 x8 x9 x10,
    k0_pay149 x0 x1 x2 x3 x4 x5 x6 x7 x8 x9 x10, k0_pay150 x0 x1 x2 x3 x4 x5 x6 x7 x8 x9 x10,
    k0_pay151 x0 x1 x2 x3 x4 x5 x6 x7 x8 x9 x10, k0_pay152 x0 x1 x2 x3 x4 x5 x6 x7 x8 x9 x10]
    = act2 x0 x1 x2 x3 x4 x5 x6 x7 x8 := by
  obtain ⟨h0, h1, h2, h3, h4, h5, h6, h7⟩ := pay_act1_each x0 x1 x2 x3 x4 x5 x6 x7 x8 x9 x10
  unfold k0_pay145 k0_pay146 k0_pay147 k0_pay148 k0_pay149 k0_pay150 k0_pay151 k0_pay152
  simp only [pay_mean2, pay_scale2]
  unfold k0_pay142 k0_pay141 k0_pay140 k0_pay139 k0_pay138 k0_pay137 k0_pay136 k0_pay135 k0_pay134 k0_pay133 k0_pay132
    k0_pay131 k0_pay130 k0_pay129 k0_pay128 k0_pay127
  simp only [h0, h1, h2, h3, h4, h5, h6, h7]
  clear h0 h1 h2 h3 h4 h5 h6 h7
  unfold act2 layer2
  generalize act1 x0 x1 x2 x3 x4 = a
  funext c
  fin_cases c <;> rfl

/-- The same, one by one. -/
theorem pay_act2_each : k0_pay145 x0 x1 x2 x3 x4 x5 x6 x7 x8 x9 x10 = act2 x0 x1 x2 x3 x4 x5 x6 x7 x8 0 ∧
    k0_pay146 x0 x1 x2 x3 x4 x5 x6 x7 x8 x9 x10 = act2 x0 x1 x2 x3 x4 x5 x6 x7 x8 1 ∧
    k0_pay147 x0 x1 x2 x3 x4 x5 x6 x7 x8 x9 x10 = act2 x0 x1 x2 x3 x4 x5 x6 x7 x8 2 ∧
    k0_pay148 x0 x1 x2 x3 x4 x5 x6 x7 x8 x9 x10 = act2 x0 x1 x2 x3 x4 x5 x6 x7 x8 3 ∧
    k0_pay149 x0 x1 x2 x3 x4 x5 x6 x7 x8 x9 x10 = act2 x0 x1 x2 x3 x4 x5 x6 x7 x8 4 ∧
    k0_pay150 x0 x1 x2 x3 x4 x5 x6 x7 x8 x9 x10 = act2 x0 x1 x2 x3 x4 x5 x6 x7 x8 5 ∧
    k0_pay151 x0 x1 x2 x3 x4 x5 x6 x7 x8 x9 x10 = act2 x0 x1 x2 x3 x4 x5 x6 x7 x8 6 ∧
    k0_pay152 x0 x1 x2 x3 x4 x5 x6 x7 x8 x9 x10 = act2 x0 x1 x2 x3 x4 x5 x6 x7 x8 7 :=
  have h := congrFun (pay_act2 x0 x1 x2 x3 x4 x5 x6 x7 x8 x9 x10)
  ⟨h 0, h 1, h 2, h 3, h 4, h 5, h 6, h 7⟩

/-- The logits' buffer after the body: one chunk per store. -/
theorem out_logits : out0_11 x0 x1 x2 x3 x4 x5 x6 x7 x8 x9 x10 = (View.canon [⟨r0_120, layer3 x0 x1 x2 x3 x4 x5 x6 x7 x8 x9 x10 3⟩,
    ⟨r0_110, layer3 x0 x1 x2 x3 x4 x5 x6 x7 x8 x9 x10 2⟩, ⟨r0_100, layer3 x0 x1 x2 x3 x4 x5 x6 x7 x8 x9 x10 1⟩,
    ⟨r0_90, layer3 x0 x1 x2 x3 x4 x5 x6 x7 x8 x9 x10 0⟩] : Vec F S256x1024 .f32) := by
  obtain ⟨h0, h1, h2, h3, h4, h5, h6, h7⟩ := pay_act2_each x0 x1 x2 x3 x4 x5 x6 x7 x8 x9 x10
  unfold out0_11 k0_pay159 k0_pay158 k0_pay157 k0_pay156 k0_pay155 k0_pay154 k0_pay153
  simp only [h0, h1, h2, h3, h4, h5, h6, h7]
  unfold layer3
  generalize act2 x0 x1 x2 x3 x4 x5 x6 x7 x8 = a
  rfl

/-- The gates' buffer after the body: one chunk per store. -/
theorem out_gates : out0_12 x0 x1 x2 x3 x4 x5 x6 x7 x8 x9 x10 = (View.canon [⟨r0_120, gate x0 x1 x2 x3 x4 x5 x6 x7 x8 x9 x10 3⟩,
    ⟨r0_110, gate x0 x1 x2 x3 x4 x5 x6 x7 x8 x9 x10 2⟩, ⟨r0_100, gate x0 x1 x2 x3 x4 x5 x6 x7 x8 x9 x10 1⟩,
    ⟨r0_90, gate x0 x1 x2 x3 x4 x5 x6 x7 x8 x9 x10 0⟩] : Vec F S256x1024 .f32) := by
  obtain ⟨h0, h1, h2, h3, h4, h5, h6, h7⟩ := pay_act2_each x0 x1 x2 x3 x4 x5 x6 x7 x8 x9 x10
  unfold out0_12 k0_pay159 k0_pay158 k0_pay157 k0_pay156 k0_pay155 k0_pay154 k0_pay153
  simp only [h0, h1, h2, h3, h4, h5, h6, h7]
  unfold gate layer3
  generalize act2 x0 x1 x2 x3 x4 x5 x6 x7 x8 = a
  rfl

end layers

end Cert.Proof

end
-- ==== Proof.Read.lean ====
/- The block's functions over extended reals, read at an index. -/
module

public import proofs.«01_k».proof.Proof.Block
public import Idealize.ShloMosaic.Lib.Pointwise

@[expose] public section

set_option maxRecDepth 16384

noncomputable section

namespace Cert.Proof

open Idealize.ShloMosaic Idealize.SL.Sem
open Cert.KernelIdeal Cert.KernelIdeal.Gen

theorem dense_at (x : FVec Ideal S256x4096 .f32) (w : FVec Ideal S4096x256 .bf16) (b : FVec Ideal S1x256 .f32)
    (r l : Fin 256) : dense (F := Ideal) x w b (ix2 r l) = (∑ k : Fin 4096, x (ix2 r k) * w (ix2 k l)) + b (ix2 0 l) := by
  pointwise [dense, biased]

theorem prod_at (a : FVec Ideal S256x256 .bf16) (w : FVec Ideal S256x256 .bf16)
    (r l : Fin 256) : prod (F := Ideal) a w (ix2 r l) = ∑ k : Fin 256, a (ix2 r k) * w (ix2 k l) := by
  pointwise [prod]

theorem prods_at (a w : Fin 8 → FVec Ideal S256x256 .bf16) (b : FVec Ideal S1x256 .f32)
    (r l : Fin 256) : prods (F := Ideal) a w b (ix2 r l)
      = (∑ c : Fin 8, ∑ k : Fin 256, a c (ix2 r k) * w c (ix2 k l)) + b (ix2 0 l) := by
  pointwise [prods, biased, prod]
  rw [Fin.sum_univ_eight]

theorem rowSum_at (h : FVec Ideal S256x256 .f32) (r : Fin 256) :
    rowSum (F := Ideal) h (ix2 r 0) = ∑ k : Fin 256, h (ix2 r k) := by
  pointwise [rowSum]

theorem rowSums_at (h : Fin 8 → FVec Ideal S256x256 .f32) (r : Fin 256) :
    rowSums (F := Ideal) h (ix2 r 0) = ∑ c, ∑ k : Fin 256, h c (ix2 r k) := by
  pointwise [rowSums, rowSum]
  rw [Fin.sum_univ_eight]

theorem sqSums_at (h : Fin 8 → FVec Ideal S256x256 .f32) (r : Fin 256) :
    sqSums (F := Ideal) h (ix2 r 0) = ∑ c, ∑ k : Fin 256, h c (ix2 r k) * h c (ix2 r k) := by
  rw [sqSums, rowSums_at]
  rfl

theorem rowMean_at (h : Fin 8 → FVec Ideal S256x256 .f32) (r : Fin 256) :
    rowMean (F := Ideal) h (ix2 r 0) = (∑ c, ∑ k : Fin 256, h c (ix2 r k)) * Ideal.ofBits .f32 0x3A000000#32 := by
  pointwise [rowMean, rowSums_at]

theorem rowScale_at (h : Fin 8 → FVec Ideal S256x256 .f32) (r : Fin 256) :
    rowScale (F := Ideal) h (ix2 r 0) = Ideal.rsqrt (((∑ c, ∑ k : Fin 256, h c (ix2 r k) * h c (ix2 r k)) * Ideal.ofBits .f32 0x3A000000#32
      - rowMean (F := Ideal) h (ix2 r 0) * rowMean (F := Ideal) h (ix2 r 0)) + Ideal.ofBits .f32 0x3727C5AC#32) := by
  pointwise [rowScale, sqSums_at]

theorem normed_at (h : FVec Ideal S256x256 .f32) (mu s : FVec Ideal S256x1 .f32) (g b : FVec Ideal S1x256 .f32)
    (r l : Fin 256) : normed (F := Ideal) h mu s g b (ix2 r l)
      = (h (ix2 r l) - mu (ix2 r 0)) * s (ix2 r 0) * g (ix2 0 l) + b (ix2 0 l) := by
  pointwise [normed]

theorem gelu_at (t : FVec Ideal S256x256 .f32) (r l : Fin 256) :
    gelu (F := Ideal) t (ix2 r l) = Ideal.ofBits .f32 0x3F000000#32 * t (ix2 r l)
      * (1 + Ideal.erf (t (ix2 r l) * Ideal.ofBits .f32 0x3F3504F3#32)) := by
  pointwise [gelu]
  rfl

theorem headMax_at (w : FVec Ideal S4x64x256 .f32) (a : Fin 4) (r : Fin 256) :
    headMax (F := Ideal) w (ix3 a 0 r) = Finset.univ.fold max (Ideal.ofBits .f32 0xFF800000#32) fun e : Fin 64 => w (ix3 a e r) := by
  pointwise [headMax]

theorem round_at (w : FVec Ideal S4x64x256 .f32) (a : Fin 4) (e : Fin 64) (r : Fin 256) :
    round (F := Ideal) w (ix3 a e r)
      = if w (ix3 a e r) = headMax (F := Ideal) w (ix3 a 0 r) then Ideal.ofBits .f32 0xFF800000#32 else w (ix3 a e r) := by
  pointwise [round]

theorem heads_at (raw : FVec Ideal S256x256 .f32) (a : Fin 4) (e : Fin 64) (r : Fin 256) :
    heads (F := Ideal) raw (ix3 a e r) = raw (ix2 r ⟨a * 64 + e, by omega⟩) := by
  pointwise [heads]

theorem unheads_at (p : FVec Ideal S4x64x256 .f32) (r l : Fin 256) :
    unheads (F := Ideal) p (ix2 r l) = p (ix3 ⟨l / 64, by omega⟩ ⟨l % 64, by omega⟩ r) := by
  pointwise [unheads]

theorem kept_at (lt : FVec Ideal S4x64x256 .f32) (a : Fin 4) (e : Fin 64) (r : Fin 256) :
    kept (F := Ideal) lt (ix3 a e r)
      = if threshold (F := Ideal) lt (ix3 a 0 r) ≤ lt (ix3 a e r)
        then Ideal.exp (lt (ix3 a e r) - headMax (F := Ideal) lt (ix3 a 0 r)) else 0 := by
  pointwise [kept]

theorem gates_at (lt : FVec Ideal S4x64x256 .f32) (a : Fin 4) (e : Fin 64) (r : Fin 256) :
    gates (F := Ideal) lt (ix3 a e r)
      = Ideal.div (kept (F := Ideal) lt (ix3 a e r)) (∑ e' : Fin 64, kept (F := Ideal) lt (ix3 a e' r)) := by
  pointwise [gates]

/-! ## The chunks of the blocks -/

/-- Position `l` of column chunk `c`. -/
def at8 (c : Fin 8) (l : Fin 256) : Fin 2048 := ⟨c * 256 + l, by omega⟩
/-- Position `l` of logit chunk `q`. -/
def at4 (q : Fin 4) (l : Fin 256) : Fin 1024 := ⟨q * 256 + l, by omega⟩

theorem cols8_at (x : FVec Ideal S1x2048 .f32) (c : Fin 8) (l : Fin 256) :
    cols8 (F := Ideal) x c (ix2 0 l) = x (ix2 0 (at8 c l)) := by
  fin_cases c <;> pointwise [cols8, at8]

theorem cols4_at (x : FVec Ideal S1x1024 .f32) (q : Fin 4) (l : Fin 256) :
    cols4 (F := Ideal) x q (ix2 0 l) = x (ix2 0 (at4 q l)) := by
  fin_cases q <;> pointwise [cols4, at4]

theorem w1Cols_at (x : FVec Ideal S4096x2048 .bf16) (c : Fin 8) (k : Fin 4096) (l : Fin 256) :
    w1Cols (F := Ideal) x c (ix2 k l) = x (ix2 k (at8 c l)) := by
  fin_cases c <;> pointwise [w1Cols, at8]

theorem w2Sq_at (x : FVec Ideal S2048x2048 .bf16) (n c : Fin 8) (k l : Fin 256) :
    w2Sq (F := Ideal) x n c (ix2 k l) = x (ix2 (at8 c k) (at8 n l)) := by
  fin_cases n <;> fin_cases c <;> pointwise [w2Sq, at8]

theorem w3Sq_at (x : FVec Ideal S2048x1024 .bf16) (q : Fin 4) (c : Fin 8) (k l : Fin 256) :
    w3Sq (F := Ideal) x q c (ix2 k l) = x (ix2 (at8 c k) (at4 q l)) := by
  fin_cases q <;> fin_cases c <;> pointwise [w3Sq, at8, at4]

theorem sum_at8 (f : Fin 2048 → EReal) : ∑ k, f k = ∑ c, ∑ l, f (at8 c l) :=
  Fin.sum_univ_tiles 8 256 rfl f

end Cert.Proof

end
-- ==== Proof.Rows.lean ====
/- What one row of a block becomes, over extended reals: the kernel's arithmetic on a row, and the block's chunks as it. -/
module

public import proofs.«01_k».proof.Proof.Read

@[expose] public section

set_option maxRecDepth 16384

noncomputable section

namespace Cert.Proof

open Idealize.ShloMosaic Idealize.SL.Sem
open Cert.KernelIdeal Cert.KernelIdeal.Gen

/-! ## A row -/

/-- A row times a matrix, plus a row. -/
def lin {n m : ℕ} (x : Fin n → EReal) (W : Fin n → Fin m → EReal) (b : Fin m → EReal) (l : Fin m) : EReal :=
  (∑ k, x k * W k l) + b l

/-- The kernel's mean of a row: the sum times the reciprocal of its length. -/
def kMean (h : Fin 2048 → EReal) : EReal := (∑ l, h l) * Ideal.ofBits .f32 0x3A000000#32

/-- The kernel's scale of a row. -/
def kScale (h : Fin 2048 → EReal) : EReal :=
  Ideal.rsqrt (((∑ l, h l * h l) * Ideal.ofBits .f32 0x3A000000#32 - kMean h * kMean h) + Ideal.ofBits .f32 0x3727C5AC#32)

/-- The kernel's normalised row. -/
def kNorm (h g b : Fin 2048 → EReal) (l : Fin 2048) : EReal := (h l - kMean h) * kScale h * g l + b l

/-- The kernel's activation. -/
def kGelu (t : EReal) : EReal :=
  Ideal.ofBits .f32 0x3F000000#32 * t * (1 + Ideal.erf (t * Ideal.ofBits .f32 0x3F3504F3#32))

/-- The kernel's normalised and activated row. -/
def kAct (h g b : Fin 2048 → EReal) (l : Fin 2048) : EReal := kGelu (kNorm h g b l)

/-- The kernel's logits of a row. -/
def kLogits (x : Fin 4096 → EReal) (W1 : Fin 4096 → Fin 2048 → EReal) (b1 g1 c1 : Fin 2048 → EReal)
    (W2 : Fin 2048 → Fin 2048 → EReal) (b2 g2 c2 : Fin 2048 → EReal) (W3 : Fin 2048 → Fin 1024 → EReal)
    (b3 : Fin 1024 → EReal) : Fin 1024 → EReal :=
  lin (kAct (lin (kAct (lin x W1 b1) g1 c1) W2 b2) g2 c2) W3 b3

/-- The greatest entry of a head. -/
def kMax (L : Fin 64 → EReal) : EReal := Finset.univ.fold max (Ideal.ofBits .f32 0xFF800000#32) L

/-- One round of the selection in a head. -/
def kRound (L : Fin 64 → EReal) (e : Fin 64) : EReal :=
  if L e = kMax L then Ideal.ofBits .f32 0xFF800000#32 else L e

/-- The threshold of a head. -/
def kThreshold (L : Fin 64 → EReal) : EReal := kMax (kRound (kRound (kRound (kRound (kRound (kRound (kRound L)))))))

/-- The kept exponentials of a head. -/
def kKept (L : Fin 64 → EReal) (e : Fin 64) : EReal :=
  if kThreshold L ≤ L e then Ideal.exp (L e - kMax L) else 0

/-- The gate of a head. -/
def kGate (L : Fin 64 → EReal) (e : Fin 64) : EReal := Ideal.div (kKept L e) (∑ e', kKept L e')

/-! ## The block's chunks as rows -/

theorem rowMean_of (h : Fin 8 → FVec Ideal S256x256 .f32) (H : Fin 2048 → EReal) (r : Fin 256)
    (hH : ∀ c l, h c (ix2 r l) = H (at8 c l)) : rowMean (F := Ideal) h (ix2 r 0) = kMean H := by
  rw [rowMean_at, kMean, sum_at8]
  simp only [hH]

theorem rowScale_of (h : Fin 8 → FVec Ideal S256x256 .f32) (H : Fin 2048 → EReal) (r : Fin 256)
    (hH : ∀ c l, h c (ix2 r l) = H (at8 c l)) : rowScale (F := Ideal) h (ix2 r 0) = kScale H := by
  rw [rowScale_at, rowMean_of h H r hH, kScale, sum_at8]
  simp only [hH]

theorem act_of (h : Fin 8 → FVec Ideal S256x256 .f32) (g b : Fin 8 → FVec Ideal S1x256 .f32)
    (H G B : Fin 2048 → EReal) (r : Fin 256) (hH : ∀ c l, h c (ix2 r l) = H (at8 c l))
    (hG : ∀ c l, g c (ix2 0 l) = G (at8 c l)) (hB : ∀ c l, b c (ix2 0 l) = B (at8 c l)) (c : Fin 8) (l : Fin 256) :
    act (F := Ideal) h g b c (ix2 r l) = kAct H G B (at8 c l) := by
  rw [act, gelu_at, normed_at, rowMean_of h H r hH, rowScale_of h H r hH, hH, hG, hB]
  rfl

theorem prods_of {m : ℕ} (a : Fin 8 → FVec Ideal S256x256 .bf16) (w : Fin 8 → FVec Ideal S256x256 .bf16)
    (b : FVec Ideal S1x256 .f32) (A : Fin 2048 → EReal) (W : Fin 2048 → Fin m → EReal) (B : Fin m → EReal)
    (r l : Fin 256) (j : Fin m) (hA : ∀ c k, a c (ix2 r k) = A (at8 c k)) (hW : ∀ c k, w c (ix2 k l) = W (at8 c k) j)
    (hB : b (ix2 0 l) = B j) : prods (F := Ideal) a w b (ix2 r l) = lin A W B j := by
  rw [prods_at, lin, sum_at8, hB]
  simp only [hA, hW]

section block
variable (x0 : FVec Ideal S256x4096 .f32) (x1 : FVec Ideal S4096x2048 .bf16) (x2 x3 x4 : FVec Ideal S1x2048 .f32)
  (x5 : FVec Ideal S2048x2048 .bf16) (x6 x7 x8 : FVec Ideal S1x2048 .f32) (x9 : FVec Ideal S2048x1024 .bf16)
  (x10 : FVec Ideal S1x1024 .f32) (r : Fin 256)

/-- The kernel's logits of row `r` of a block. -/
def blockLogits : Fin 1024 → EReal :=
  kLogits (fun k => x0 (ix2 r k)) (fun k l => x1 (ix2 k l)) (fun l => x2 (ix2 0 l)) (fun l => x3 (ix2 0 l))
    (fun l => x4 (ix2 0 l)) (fun k l => x5 (ix2 k l)) (fun l => x6 (ix2 0 l)) (fun l => x7 (ix2 0 l))
    (fun l => x8 (ix2 0 l)) (fun k l => x9 (ix2 k l)) (fun l => x10 (ix2 0 l))

/-- Head `a` of a row of logits. -/
def headOf (L : Fin 1024 → EReal) (a : Fin 16) (e : Fin 64) : EReal := L ⟨a * 64 + e, by omega⟩

theorem layer1_at (c : Fin 8) (l : Fin 256) : layer1 (F := Ideal) x0 x1 x2 c (ix2 r l)
    = lin (fun k => x0 (ix2 r k)) (fun k l => x1 (ix2 k l)) (fun l => x2 (ix2 0 l)) (at8 c l) := by
  rw [layer1, dense_at, lin]
  simp only [cols8_at, w1Cols_at]
  pointwise

theorem act1_at (c : Fin 8) (l : Fin 256) : act1 (F := Ideal) x0 x1 x2 x3 x4 c (ix2 r l)
    = kAct (lin (fun k => x0 (ix2 r k)) (fun k l => x1 (ix2 k l)) (fun l => x2 (ix2 0 l))) (fun l => x3 (ix2 0 l))
        (fun l => x4 (ix2 0 l)) (at8 c l) :=
  act_of _ _ _ _ _ _ _ (layer1_at x0 x1 x2 r) (fun c l => cols8_at x3 c l) (fun c l => cols8_at x4 c l) c l

theorem layer2_at (n : Fin 8) (l : Fin 256) : layer2 (F := Ideal) x0 x1 x2 x3 x4 x5 x6 n (ix2 r l)
    = lin (kAct (lin (fun k => x0 (ix2 r k)) (fun k l => x1 (ix2 k l)) (fun l => x2 (ix2 0 l))) (fun l => x3 (ix2 0 l))
        (fun l => x4 (ix2 0 l))) (fun k l => x5 (ix2 k l)) (fun l => x6 (ix2 0 l)) (at8 n l) :=
  prods_of _ _ _ _ (fun k l => x5 (ix2 k l)) (fun l => x6 (ix2 0 l)) r l (at8 n l) (act1_at x0 x1 x2 x3 x4 r)
    (fun c k => w2Sq_at x5 n c k l) (cols8_at x6 n l)

theorem act2_at (n : Fin 8) (l : Fin 256) : act2 (F := Ideal) x0 x1 x2 x3 x4 x5 x6 x7 x8 n (ix2 r l)
    = kAct (lin (kAct (lin (fun k => x0 (ix2 r k)) (fun k l => x1 (ix2 k l)) (fun l => x2 (ix2 0 l)))
        (fun l => x3 (ix2 0 l)) (fun l => x4 (ix2 0 l))) (fun k l => x5 (ix2 k l)) (fun l => x6 (ix2 0 l)))
        (fun l => x7 (ix2 0 l)) (fun l => x8 (ix2 0 l)) (at8 n l) :=
  act_of _ _ _ _ _ _ _ (layer2_at x0 x1 x2 x3 x4 x5 x6 r) (fun c l => cols8_at x7 c l) (fun c l => cols8_at x8 c l) n l

theorem layer3_at (q : Fin 4) (l : Fin 256) : layer3 (F := Ideal) x0 x1 x2 x3 x4 x5 x6 x7 x8 x9 x10 q (ix2 r l)
    = blockLogits x0 x1 x2 x3 x4 x5 x6 x7 x8 x9 x10 r (at4 q l) :=
  prods_of _ _ _ _ (fun k l => x9 (ix2 k l)) (fun l => x10 (ix2 0 l)) r l (at4 q l)
    (act2_at x0 x1 x2 x3 x4 x5 x6 x7 x8 r) (fun c k => w3Sq_at x9 q c k l) (cols4_at x10 q l)

theorem headMax_of (w : FVec Ideal S4x64x256 .f32) (a : Fin 4) (L : Fin 64 → EReal) (h : ∀ e, w (ix3 a e r) = L e) :
    headMax (F := Ideal) w (ix3 a 0 r) = kMax L := by
  rw [headMax_at, kMax]
  simp only [h]

theorem round_of (w : FVec Ideal S4x64x256 .f32) (a : Fin 4) (L : Fin 64 → EReal) (h : ∀ e, w (ix3 a e r) = L e)
    (e : Fin 64) : round (F := Ideal) w (ix3 a e r) = kRound L e := by
  rw [round_at, headMax_of r w a L h, h, kRound]

theorem threshold_of (w : FVec Ideal S4x64x256 .f32) (a : Fin 4) (L : Fin 64 → EReal) (h : ∀ e, w (ix3 a e r) = L e) :
    threshold (F := Ideal) w (ix3 a 0 r) = kThreshold L :=
  headMax_of r _ a _ (round_of r _ a _ (round_of r _ a _ (round_of r _ a _ (round_of r _ a _ (round_of r _ a _
    (round_of r _ a _ (round_of r _ a _ h)))))))

theorem gates_of (w : FVec Ideal S4x64x256 .f32) (a : Fin 4) (L : Fin 64 → EReal) (h : ∀ e, w (ix3 a e r) = L e)
    (e : Fin 64) : gates (F := Ideal) w (ix3 a e r) = kGate L e := by
  have hk : ∀ e, kept (F := Ideal) w (ix3 a e r) = kKept L e := fun e => by
    rw [kept_at, threshold_of r w a L h, headMax_of r w a L h, h, kKept]
  rw [gates_at, kGate, hk]
  simp only [hk]

theorem gate_at (q : Fin 4) (l : Fin 256) : gate (F := Ideal) x0 x1 x2 x3 x4 x5 x6 x7 x8 x9 x10 q (ix2 r l)
    = kGate (headOf (blockLogits x0 x1 x2 x3 x4 x5 x6 x7 x8 x9 x10 r) ⟨q * 4 + l / 64, by omega⟩)
        ⟨l % 64, by omega⟩ := by
  rw [gate, unheads_at]
  refine gates_of r _ _ _ (fun e => ?_) _
  rw [heads_at, layer3_at, headOf]
  congr 1
  ext
  simp only [at4]
  omega

end block

end Cert.Proof

end
-- ==== Proof.RefRead.lean ====
/- The reference's vectors read at an index, over extended reals. -/
module

public import proofs.«01_k».proof.Proof.RefTerms
public import proofs.«01_k».proof.Proof.Rows

@[expose] public section

set_option maxRecDepth 16384

noncomputable section

namespace Cert.Proof.Ref

open Idealize.ShloMosaic Idealize.SL.Sem
open Cert.ReferenceIdeal Cert.ReferenceIdeal.Gen

/-! ## A row -/

/-- The reference's mean of a row. -/
def rMean (h : Fin 2048 → EReal) : EReal := Ideal.div (∑ l, h l) (Ideal.ofBits .f32 0x45000000#32)

/-- The reference's normalised row. -/
def rNorm (h g b : Fin 2048 → EReal) (l : Fin 2048) : EReal :=
  Ideal.div (h l - rMean h)
    (Ideal.sqrt (rMean (fun k => (h k - rMean h) * (h k - rMean h)) + Ideal.ofBits .f32 0x3727C5AC#32)) * g l + b l

/-- The reference's activation. -/
def rGelu (t : EReal) : EReal :=
  Ideal.ofBits .f32 0x3F000000#32 * t * Ideal.erfc (-t * Ideal.ofBits .f32 0x3F3504F3#32)

/-- The reference's normalised and activated row. -/
def rAct (h g b : Fin 2048 → EReal) (l : Fin 2048) : EReal := rGelu (rNorm h g b l)

/-- The reference's logits of a row. -/
def rLogits (x : Fin 4096 → EReal) (W1 : Fin 4096 → Fin 2048 → EReal) (b1 g1 c1 : Fin 2048 → EReal)
    (W2 : Fin 2048 → Fin 2048 → EReal) (b2 g2 c2 : Fin 2048 → EReal) (W3 : Fin 2048 → Fin 1024 → EReal)
    (b3 : Fin 1024 → EReal) : Fin 1024 → EReal :=
  lin (rAct (lin (rAct (lin x W1 b1) g1 c1) W2 b2) g2 c2) W3 b3

/-- The reference's shifted exponentials of a head. -/
def rExp (L : Fin 64 → EReal) (e : Fin 64) : EReal := Ideal.exp (L e - max (Ideal.ofBits .f32 0xFF800000#32) (kMax L))

/-- The reference's softmax of a head. -/
def rSoft (L : Fin 64 → EReal) (e : Fin 64) : EReal := Ideal.div (rExp L e) (∑ e', rExp L e')

/-! ## The vectors at an index -/

variable (i : Fin 8192)

theorem hidden1_at (x : FVec Ideal S8192x4096 .f32) (w : FVec Ideal S4096x2048 .f32) (b : FVec Ideal S2048 .f32)
    (l : Fin 2048) : hidden1 (F := Ideal) x w b (ix2 i l)
      = lin (fun k => x (ix2 i k)) (fun k l => w (ix2 k l)) (fun l => b (ix1 l)) l := by
  pointwise [hidden1, repeated]
  rfl

theorem hidden2_at (x : FVec Ideal S8192x2048 .f32) (w : FVec Ideal S2048x2048 .f32) (b : FVec Ideal S2048 .f32)
    (l : Fin 2048) : hidden2 (F := Ideal) x w b (ix2 i l)
      = lin (fun k => x (ix2 i k)) (fun k l => w (ix2 k l)) (fun l => b (ix1 l)) l := by
  pointwise [hidden2, repeated]
  rfl

theorem last_at (x : FVec Ideal S8192x2048 .f32) (w : FVec Ideal S2048x1024 .f32) (b : FVec Ideal S1024 .f32)
    (l : Fin 1024) : last (F := Ideal) x w b (ix2 i l)
      = lin (fun k => x (ix2 i k)) (fun k l => w (ix2 k l)) (fun l => b (ix1 l)) l := by
  pointwise [last]
  rfl

theorem mean_at (h : FVec Ideal S8192x2048 .f32) : mean (F := Ideal) h (ix2 i 0) = rMean (fun l => h (ix2 i l)) := by
  pointwise [mean]
  rfl

theorem centred_at (h : FVec Ideal S8192x2048 .f32) (l : Fin 2048) : centred (F := Ideal) h (ix2 i l)
    = h (ix2 i l) - rMean (fun l => h (ix2 i l)) := by
  rw [← mean_at]
  pointwise [centred]

theorem squared_at (h : FVec Ideal S8192x2048 .f32) (l : Fin 2048) : mulf h h (ix2 i l) = h (ix2 i l) * h (ix2 i l) := by
  pointwise

theorem normed_at (h : FVec Ideal S8192x2048 .f32) (g b : FVec Ideal S2048 .f32) (l : Fin 2048) :
    normed (F := Ideal) h g b (ix2 i l)
      = rNorm (fun l => h (ix2 i l)) (fun l => g (ix1 l)) (fun l => b (ix1 l)) l := by
  have e : ∀ c m : FVec Ideal S8192x2048 .f32, ∀ s : FVec Ideal S8192x1 .f32,
      addf (mulf (Host.divf c (broadcastInDim S8192x2048 ![0, 1] bcast_S8192x1_S8192x2048_0_1
        (Host.sqrt (addf s (broadcastInDim S8192x1 ![] bcast_S_S8192x1 (constant S_ .f32 0x3727C5AC#32)))))) (repeated g))
        (repeated b) (ix2 i l)
      = Ideal.div (c (ix2 i l)) (Ideal.sqrt (s (ix2 i 0) + Ideal.ofBits .f32 0x3727C5AC#32)) * g (ix1 l) + b (ix1 l) := by
    intro c m s
    pointwise [repeated]
  rw [normed, e _ h, centred_at, mean_at]
  simp only [squared_at, centred_at]
  rfl

theorem gelu_at (t : FVec Ideal S8192x2048 .f32) (l : Fin 2048) : gelu (F := Ideal) t (ix2 i l) = rGelu (t (ix2 i l)) := by
  pointwise [gelu]
  rfl

theorem rows_at (x0 : FVec Ideal S8192x4096 .f32) (x1 : FVec Ideal S4096x2048 .f32) (x2 x3 x4 : FVec Ideal S2048 .f32)
    (x5 : FVec Ideal S2048x2048 .f32) (x6 x7 x8 : FVec Ideal S2048 .f32) (x9 : FVec Ideal S2048x1024 .f32)
    (x10 : FVec Ideal S1024 .f32) (l : Fin 1024) :
    rows (F := Ideal) x0 x1 x2 x3 x4 x5 x6 x7 x8 x9 x10 (ix2 i l)
      = rLogits (fun k => x0 (ix2 i k)) (fun k l => x1 (ix2 k l)) (fun l => x2 (ix1 l)) (fun l => x3 (ix1 l))
          (fun l => x4 (ix1 l)) (fun k l => x5 (ix2 k l)) (fun l => x6 (ix1 l)) (fun l => x7 (ix1 l)) (fun l => x8 (ix1 l))
          (fun k l => x9 (ix2 k l)) (fun l => x10 (ix1 l)) l := by
  rw [rows, last_at]
  simp only [gelu_at, normed_at, hidden2_at, hidden1_at]
  rfl

theorem logits_at (x0 : FVec Ideal S8192x4096 .f32) (x1 : FVec Ideal S4096x2048 .f32) (x2 x3 x4 : FVec Ideal S2048 .f32)
    (x5 : FVec Ideal S2048x2048 .f32) (x6 x7 x8 : FVec Ideal S2048 .f32) (x9 : FVec Ideal S2048x1024 .f32)
    (x10 : FVec Ideal S1024 .f32) (a : Fin 16) (e : Fin 64) :
    logits (F := Ideal) x0 x1 x2 x3 x4 x5 x6 x7 x8 x9 x10 (ix3 i a e)
      = headOf (rLogits (fun k => x0 (ix2 i k)) (fun k l => x1 (ix2 k l)) (fun l => x2 (ix1 l)) (fun l => x3 (ix1 l))
          (fun l => x4 (ix1 l)) (fun k l => x5 (ix2 k l)) (fun l => x6 (ix1 l)) (fun l => x7 (ix1 l)) (fun l => x8 (ix1 l))
          (fun k l => x9 (ix2 k l)) (fun l => x10 (ix1 l))) a e := by
  have h : ∀ r : FVec Ideal S8192x1024 .f32, (shapeCast S8192x16x64 r shapeCasts_S8192x1024_S8192x16x64 :
      FVec Ideal S8192x16x64 .f32) (ix3 i a e) = r (ix2 i ⟨a * 64 + e, by omega⟩) := fun r => by
    pointwise
  rw [logits, h, rows_at, headOf]

theorem headTop_at (l : FVec Ideal S8192x16x64 .f32) (a : Fin 16) : headTop (F := Ideal) l (ix2 i a)
    = kMax (fun e => l (ix3 i a e)) := by
  rw [kMax]
  pointwise [headTop]

theorem expLess_at (l : FVec Ideal S8192x16x64 .f32) (m : FVec Ideal S8192x16 .f32) (a : Fin 16) (e : Fin 64) :
    expLess (F := Ideal) l m (ix3 i a e)
      = Ideal.exp (l (ix3 i a e) - max (Ideal.ofBits .f32 0xFF800000#32) (m (ix2 i a))) := by
  pointwise [expLess, overHead]

theorem exps_at (l : FVec Ideal S8192x16x64 .f32) (a : Fin 16) (e : Fin 64) : exps (F := Ideal) l (ix3 i a e)
    = rExp (fun e => l (ix3 i a e)) e := by
  rw [exps, expLess_at, headTop_at, rExp]

theorem headSum_at (l : FVec Ideal S8192x16x64 .f32) (a : Fin 16) : headSum (F := Ideal) l (ix2 i a)
    = ∑ e, l (ix3 i a e) := by
  pointwise [headSum]

theorem softmax_at (l : FVec Ideal S8192x16x64 .f32) (a : Fin 16) (e : Fin 64) : softmax (F := Ideal) l (ix3 i a e)
    = rSoft (fun e => l (ix3 i a e)) e := by
  have h : ∀ (p : FVec Ideal S8192x16x64 .f32) (s : FVec Ideal S8192x16 .f32), Host.divf p (overHead s) (ix3 i a e)
      = Ideal.div (p (ix3 i a e)) (s (ix2 i a)) := fun p s => by
    pointwise [overHead]
  rw [softmax, h, headSum_at, rSoft]
  simp only [exps_at]

theorem masked_at (k : IVec S8192x16x64 1) (l : FVec Ideal S8192x16x64 .f32) (a : Fin 16) (e : Fin 64) :
    masked (F := Ideal) k l (ix3 i a e) = if k (ix3 i a e) = 1#1 then l (ix3 i a e) else Ideal.ofBits .f32 0xFF800000#32 := by
  pointwise [masked, id]
  rfl

theorem noNan_at (p : FVec Ideal S8192x16x64 .f32) (j : S8192x16x64.Idx) : noNan (F := Ideal) p j = p j := by
  pointwise [noNan, id]
  simp

theorem swapped_at (u v : BitVec 32) (p : FVec Ideal S8192x16x64 .f32) (j : S8192x16x64.Idx) :
    swapped (F := Ideal) u v p j = if p j = Ideal.ofBits .f32 u then Ideal.ofBits .f32 v else p j := by
  pointwise [swapped]

theorem among_at (p : IVec S8192x16x8 32) (a : Fin 16) (e : Fin 64) :
    among p (ix3 i a e) = 1#1 ↔ ∃ k : Fin 8, p (ix3 i a k) = BitVec.ofNat 32 e := by
  pointwise [among]
  have h : ∀ (f : Fin 8 → BitVec 1) (s : Finset (Fin 8)), Finset.fold IntOp.ori 0#1 f s = 1#1 ↔ ∃ k ∈ s, f k = 1#1 := by
    intro f s
    induction s using Finset.induction_on with
    | empty => simp
    | insert k s hk ih =>
      rw [Finset.fold_insert hk]
      have : ∀ u v : BitVec 1, IntOp.ori u v = 1#1 ↔ u = 1#1 ∨ v = 1#1 := by decide
      rw [this, ih]
      simp
  rw [h]
  have hb : ∀ b, BitVec.ofBool b = 1#1 ↔ b = true := by decide
  simp [IntOp.cmpi, hb]

end Cert.Proof.Ref

end
-- ==== Proof.RealMath.lean ====
/- On finite inputs the kernel's and the reference's logits are the same real numbers. -/
module

public import proofs.«01_k».proof.Proof.RefRead

@[expose] public section

set_option maxRecDepth 16384

noncomputable section

namespace Cert.Proof

open Idealize.ShloMosaic Cert.Proof.Ref

/-! ## The literals -/

theorem lit_inv : Ideal.ofBits .f32 0x3A000000#32 = ((1 / 2048 : ℝ) : EReal) := by
  simp [Ideal.ofBits, Ideal.ieee, -EReal.coe_mul]; norm_num

theorem lit_len : Ideal.ofBits .f32 0x45000000#32 = ((2048 : ℝ) : EReal) := by
  simp [Ideal.ofBits, Ideal.ieee, -EReal.coe_mul]; norm_num

theorem lit_eps : ∃ ε : ℝ, 0 < ε ∧ Ideal.ofBits .f32 0x3727C5AC#32 = (ε : EReal) := by
  refine ⟨(1 + 2606508 / 2 ^ 23) * (1 / 2 ^ 17), by norm_num, ?_⟩
  simp [Ideal.ofBits, Ideal.ieee, -EReal.coe_mul]; norm_num

theorem lit_half : ∃ x : ℝ, Ideal.ofBits .f32 0x3F000000#32 = (x : EReal) := by
  refine ⟨1 / 2, ?_⟩
  simp [Ideal.ofBits, Ideal.ieee, -EReal.coe_mul]; norm_num

theorem lit_root : ∃ x : ℝ, Ideal.ofBits .f32 0x3F3504F3#32 = (x : EReal) := by
  refine ⟨(1 + 3474675 / 2 ^ 23) * (1 / 2), ?_⟩
  simp [Ideal.ofBits, Ideal.ieee, -EReal.coe_mul]; norm_num

theorem lit_bot : Ideal.ofBits .f32 0xFF800000#32 = (⊥ : EReal) := by
  simp [Ideal.ofBits, Ideal.ieee]

theorem lit_top : Ideal.ofBits .f32 0x7F800000#32 = (⊤ : EReal) := by
  simp [Ideal.ofBits, Ideal.ieee]

/-! ## Real rows -/

/-- Every value of a function is a real number. -/
def IsReal {α : Type} (f : α → EReal) : Prop := ∃ F : α → ℝ, f = fun a => ((F a : ℝ) : EReal)

theorem coe_sum {α : Type} (s : Finset α) (f : α → ℝ) : ((∑ k ∈ s, f k : ℝ) : EReal) = ∑ k ∈ s, (f k : EReal) := by
  induction s using Finset.cons_induction with
  | empty => simp
  | cons k s hk ih => rw [Finset.sum_cons, Finset.sum_cons, EReal.coe_add, ih]

theorem lin_real {n m : ℕ} {x : Fin n → EReal} {W : Fin n → Fin m → EReal} {b : Fin m → EReal} (hx : IsReal x)
    (hW : ∀ k, IsReal (W k)) (hb : IsReal b) : IsReal (lin x W b) := by
  obtain ⟨x, rfl⟩ := hx
  obtain ⟨b, rfl⟩ := hb
  choose W' hW using hW
  obtain rfl : W = fun k l => ((W' k l : ℝ) : EReal) := funext hW
  refine ⟨fun l => (∑ k, x k * W' k l) + b l, funext fun l => ?_⟩
  simp only [lin, ← EReal.coe_mul, ← coe_sum, ← EReal.coe_add]

/-- The mean square less the squared mean is the mean squared deviation. -/
theorem variance (H : Fin 2048 → ℝ) (μ : ℝ) (hμ : μ = (∑ l, H l) * (1 / 2048)) :
    (∑ l, H l * H l) * (1 / 2048) - μ * μ = (∑ l, (H l - μ) * (H l - μ)) * (1 / 2048) := by
  have h : ∀ l, (H l - μ) * (H l - μ) = H l * H l - 2 * μ * H l + μ * μ := fun l => by ring
  simp only [h, Finset.sum_add_distrib, Finset.sum_sub_distrib, ← Finset.mul_sum, Finset.sum_const, Finset.card_univ,
    Fintype.card_fin, nsmul_eq_mul]
  have hs : ∑ l, H l = 2048 * μ := by rw [hμ]; ring
  rw [hs]
  push_cast
  ring

theorem norm_real {h g b : Fin 2048 → EReal} (hh : IsReal h) (hg : IsReal g) (hb : IsReal b) :
    kNorm h g b = rNorm h g b ∧ IsReal (rNorm h g b) := by
  obtain ⟨H, rfl⟩ := hh
  obtain ⟨G, rfl⟩ := hg
  obtain ⟨B, rfl⟩ := hb
  obtain ⟨ε, hε, he⟩ := lit_eps
  obtain ⟨μ, hμ⟩ : ∃ μ, μ = (∑ l, H l) * (1 / 2048) := ⟨_, rfl⟩
  obtain ⟨v, hv⟩ : ∃ v, v = (∑ l, (H l - μ) * (H l - μ)) * (1 / 2048) := ⟨_, rfl⟩
  have hv0 : 0 ≤ v := by
    rw [hv]
    exact mul_nonneg (Finset.sum_nonneg fun l _ => mul_self_nonneg _) (by norm_num)
  have hr : ∀ K : Fin 2048 → ℝ, rMean (fun l => ((K l : ℝ) : EReal)) = (((∑ l, K l) * (1 / 2048) : ℝ) : EReal) := fun K => by
    rw [rMean, lit_len, Ideal.div_coe (by norm_num), ← coe_sum, ← EReal.coe_mul]
  have hkm : kMean (fun l => ((H l : ℝ) : EReal)) = (μ : EReal) := by
    rw [kMean, lit_inv, ← coe_sum, ← EReal.coe_mul, hμ]
  have hks : kScale (fun l => ((H l : ℝ) : EReal)) = ((√(v + ε))⁻¹ : ℝ) := by
    simp only [kScale, hkm, lit_inv, he, ← EReal.coe_mul, ← coe_sum, ← EReal.coe_sub, ← EReal.coe_add]
    rw [variance H μ hμ, ← hv, Ideal.rsqrt_coe, if_neg (by linarith), if_neg (by linarith)]
  have hroot : √(v + ε) ≠ 0 := by positivity
  have hrn : ∀ l, rNorm (fun l => ((H l : ℝ) : EReal)) (fun l => ((G l : ℝ) : EReal)) (fun l => ((B l : ℝ) : EReal)) l
      = (((H l - μ) * (√(v + ε))⁻¹ * G l + B l : ℝ) : EReal) := fun l => by
    simp only [rNorm, hr, ← hμ, ← EReal.coe_sub, ← EReal.coe_mul, ← hv, he, ← EReal.coe_add]
    rw [Ideal.sqrt_coe, if_neg (by linarith), Ideal.div_coe hroot, one_div, ← EReal.coe_mul, ← EReal.coe_mul,
      ← EReal.coe_add]
  refine ⟨funext fun l => ?_, _, funext hrn⟩
  rw [hrn, kNorm, hkm, hks, ← EReal.coe_sub, ← EReal.coe_mul, ← EReal.coe_mul, ← EReal.coe_add]

theorem gelu_eq (t : EReal) : kGelu t = rGelu t := by
  rw [kGelu, rGelu, neg_mul, Ideal.erfc_neg]

theorem gelu_real (t : ℝ) : ∃ y : ℝ, kGelu (t : EReal) = (y : EReal) := by
  obtain ⟨a, ha⟩ := lit_half
  obtain ⟨s, hs⟩ := lit_root
  rw [kGelu, ha, hs, ← EReal.coe_mul, ← EReal.coe_mul, Ideal.erf_coe, ← EReal.coe_one, ← EReal.coe_add, ← EReal.coe_mul]
  exact ⟨_, rfl⟩

theorem act_real {h g b : Fin 2048 → EReal} (hh : IsReal h) (hg : IsReal g) (hb : IsReal b) :
    kAct h g b = rAct h g b ∧ IsReal (rAct h g b) := by
  obtain ⟨e, N, hN⟩ := norm_real hh hg hb
  have ha : kAct h g b = rAct h g b := funext fun l => by rw [kAct, rAct, e, gelu_eq]
  choose Y hY using gelu_real
  exact ⟨ha, fun l => Y (N l), funext fun l => by rw [← ha, kAct, e, hN, hY]⟩

/-- On finite inputs the two programs' logits of a row agree and are real numbers. -/
theorem logits_real {x : Fin 4096 → EReal} {W1 : Fin 4096 → Fin 2048 → EReal} {b1 g1 c1 : Fin 2048 → EReal}
    {W2 : Fin 2048 → Fin 2048 → EReal} {b2 g2 c2 : Fin 2048 → EReal} {W3 : Fin 2048 → Fin 1024 → EReal}
    {b3 : Fin 1024 → EReal} (hx : IsReal x) (hW1 : ∀ k, IsReal (W1 k)) (hb1 : IsReal b1) (hg1 : IsReal g1)
    (hc1 : IsReal c1) (hW2 : ∀ k, IsReal (W2 k)) (hb2 : IsReal b2) (hg2 : IsReal g2) (hc2 : IsReal c2)
    (hW3 : ∀ k, IsReal (W3 k)) (hb3 : IsReal b3) :
    kLogits x W1 b1 g1 c1 W2 b2 g2 c2 W3 b3 = rLogits x W1 b1 g1 c1 W2 b2 g2 c2 W3 b3
      ∧ IsReal (rLogits x W1 b1 g1 c1 W2 b2 g2 c2 W3 b3) := by
  obtain ⟨e1, r1⟩ := act_real (lin_real hx hW1 hb1) hg1 hc1
  obtain ⟨e2, r2⟩ := act_real (lin_real r1 hW2 hb2) hg2 hc2
  exact ⟨by rw [kLogits, rLogits, e1, e2], lin_real r2 hW3 hb3⟩

end Cert.Proof

end
-- ==== Proof.HeadMath.lean ====
/- The selection in one head: the kernel's rounds keep the eight greatest entries, so its gates are the reference's. -/
module

public import proofs.«01_k».proof.Proof.RealMath

@[expose] public section

set_option maxRecDepth 16384

noncomputable section

namespace Cert.Proof

open Idealize.ShloMosaic Cert.Proof.Ref

theorem kMax_eq (W : Fin 64 → EReal) (m : EReal) (h : ∀ e, W e ≤ m) (e : Fin 64) (he : W e = m) : kMax W = m := by
  rw [kMax, lit_bot]
  refine le_antisymm (Finset.fold_max_le _ |>.2 ⟨bot_le, fun e _ => h e⟩) ?_
  exact (Finset.le_fold_max _).2 (Or.inr ⟨e, Finset.mem_univ e, he.ge⟩)

/-- An order of a head's entries, greatest first, whose nine first entries are pairwise apart. -/
structure Ranked (L : Fin 64 → ℝ) (σ : Fin 64 → Fin 64) : Prop where
  surj : Function.Surjective σ
  falls : ∀ i j, i ≤ j → L (σ j) ≤ L (σ i)
  apart : ∀ i j : Fin 64, i.val < 8 → i < j → L (σ j) < L (σ i)

section
variable (L : Fin 64 → ℝ) (σ : Fin 64 → Fin 64)

/-- A head without its entries of rank below `n`. -/
def without (n : ℕ) (e : Fin 64) : EReal := by
  classical exact if ∃ j : Fin 64, j.val < n ∧ σ j = e then ⊥ else (L e : EReal)

/-- The head with all but its eight greatest entries replaced by minus infinity. -/
def topOnly (e : Fin 64) : EReal := by
  classical exact if ∃ j : Fin 64, j.val < 8 ∧ σ j = e then (L e : EReal) else ⊥

variable {L σ} (h : Ranked L σ)
include h

theorem Ranked.inj : Function.Injective σ := Finite.injective_iff_surjective.2 h.surj

theorem Ranked.without_at (n : ℕ) (j : Fin 64) :
    without L σ n (σ j) = if j.val < n then ⊥ else ((L (σ j) : ℝ) : EReal) := by
  have : (∃ i : Fin 64, i.val < n ∧ σ i = σ j) ↔ j.val < n :=
    ⟨fun ⟨i, hi, e⟩ => h.inj e ▸ hi, fun hj => ⟨j, hj, rfl⟩⟩
  simp only [without, this]

theorem Ranked.topOnly_at (j : Fin 64) :
    topOnly L σ (σ j) = if j.val < 8 then ((L (σ j) : ℝ) : EReal) else ⊥ := by
  have : (∃ i : Fin 64, i.val < 8 ∧ σ i = σ j) ↔ j.val < 8 :=
    ⟨fun ⟨i, hi, e⟩ => h.inj e ▸ hi, fun hj => ⟨j, hj, rfl⟩⟩
  simp only [topOnly, this]

theorem Ranked.max_without (n : Fin 64) : kMax (without L σ n) = ((L (σ n) : ℝ) : EReal) := by
  refine kMax_eq _ _ (fun e => ?_) (σ n) ?_
  · obtain ⟨j, rfl⟩ := h.surj e
    rw [h.without_at]
    split
    · exact bot_le
    · exact EReal.coe_le_coe_iff.2 (h.falls _ _ (by omega))
  · rw [h.without_at, if_neg (by omega)]

/-- One round deletes the entry of the next rank and no other. -/
theorem Ranked.round_without (n : Fin 64) (hn : n.val < 8) : kRound (without L σ n) = without L σ (n + 1) := by
  funext e
  obtain ⟨j, rfl⟩ := h.surj e
  rw [kRound, h.max_without, h.without_at, h.without_at, lit_bot]
  rcases lt_trichotomy j n with hj | rfl | hj
  · rw [if_pos (show j.val < n.val from hj), if_pos (show j.val < n.val + 1 by omega), if_neg (EReal.bot_ne_coe _)]
  · rw [if_neg (lt_irrefl _), if_pos rfl, if_pos (by omega)]
  · rw [if_neg (show ¬ j.val < n.val by omega), if_neg (show ¬ j.val < n.val + 1 by omega), if_neg]
    exact fun he => (h.apart n j hn hj).ne (EReal.coe_injective he)

theorem Ranked.without_zero : (fun e => (L e : EReal)) = without L σ 0 := by
  funext e
  obtain ⟨j, rfl⟩ := h.surj e
  rw [h.without_at, if_neg (by omega)]

theorem Ranked.max_eq : kMax (fun e => (L e : EReal)) = ((L (σ 0) : ℝ) : EReal) := by
  rw [h.without_zero]
  exact h.max_without 0

theorem Ranked.threshold_eq : kThreshold (fun e => (L e : EReal)) = ((L (σ 7) : ℝ) : EReal) := by
  rw [kThreshold, h.without_zero, show without L σ 0 = without L σ (0 : Fin 64) from rfl, h.round_without 0 (by decide)]
  have s : ∀ n : ℕ, n < 7 → kRound (without L σ (n + 1)) = without L σ (n + 1 + 1) := fun n hn => by
    have := h.round_without ⟨n + 1, by omega⟩ (show n + 1 < 8 by omega)
    exact this
  rw [show ((0 : Fin 64).val + 1) = 0 + 1 from rfl, s 0 (by decide), s (0 + 1) (by decide), s (0 + 1 + 1) (by decide),
    s (0 + 1 + 1 + 1) (by decide), s (0 + 1 + 1 + 1 + 1) (by decide), s (0 + 1 + 1 + 1 + 1 + 1) (by decide)]
  exact h.max_without 7

theorem Ranked.kept_at (j : Fin 64) : kKept (fun e => (L e : EReal)) (σ j)
    = ((if j.val < 8 then Real.exp (L (σ j) - L (σ 0)) else 0 : ℝ) : EReal) := by
  rw [kKept, h.threshold_eq, h.max_eq]
  by_cases hj : j.val < 8
  · rw [if_pos (EReal.coe_le_coe_iff.2 (h.falls j 7 (show j.val ≤ 7 by omega))), if_pos hj, ← EReal.coe_sub, Ideal.exp_coe]
  · rw [if_neg (fun hle => (h.apart 7 j (by decide) (show 7 < j.val by omega)).not_ge (EReal.coe_le_coe_iff.1 hle)),
      if_neg hj, EReal.coe_zero]

theorem Ranked.max_topOnly : kMax (topOnly L σ) = ((L (σ 0) : ℝ) : EReal) := by
  refine kMax_eq _ _ (fun e => ?_) (σ 0) ?_
  · obtain ⟨j, rfl⟩ := h.surj e
    rw [h.topOnly_at]
    split
    · exact EReal.coe_le_coe_iff.2 (h.falls _ _ (by omega))
    · exact bot_le
  · rw [h.topOnly_at, if_pos (by decide)]

theorem Ranked.exp_topOnly : rExp (topOnly L σ) = kKept (fun e => (L e : EReal)) := by
  funext e
  obtain ⟨j, rfl⟩ := h.surj e
  rw [h.kept_at, rExp, h.max_topOnly, lit_bot, max_eq_right bot_le, h.topOnly_at]
  split
  · rw [← EReal.coe_sub, Ideal.exp_coe]
  · rw [EReal.bot_sub, Ideal.exp_bot, EReal.coe_zero]

/-- The softmax over the eight greatest entries is the kernel's gate, a real number. -/
theorem Ranked.soft_eq : rSoft (topOnly L σ) = kGate (fun e => (L e : EReal)) := by
  funext e
  rw [rSoft, kGate, h.exp_topOnly]

theorem Ranked.gate_real : IsReal (kGate (fun e => (L e : EReal))) := by
  choose τ hτ using h.surj
  obtain ⟨K, hK⟩ : IsReal (kKept (fun e => (L e : EReal))) := ⟨_, funext fun e => by
    conv_lhs => rw [← hτ e, h.kept_at]⟩
  have hpos : 0 < ∑ e, K e := by
    have hk : ∀ j, K (σ j) = if j.val < 8 then Real.exp (L (σ j) - L (σ 0)) else 0 := fun j =>
      EReal.coe_injective (by rw [← h.kept_at j, hK])
    refine Finset.sum_pos' (fun e _ => ?_) ⟨σ 0, Finset.mem_univ _, ?_⟩
    · rw [← hτ e, hk]
      split
      · exact (Real.exp_pos _).le
      · exact le_rfl
    · rw [hk, if_pos (by decide)]
      exact Real.exp_pos _
  refine ⟨fun e => K e * (1 / ∑ e', K e'), funext fun e => ?_⟩
  rw [kGate, hK, ← coe_sum, Ideal.div_coe hpos.ne', ← EReal.coe_mul]

end

end Cert.Proof

end
-- ==== Proof.Ranks.lean ====
/- The library's top-k of each head, as an order of the head's entries. -/
module

public import proofs.«01_k».proof.Proof.HeadMath
public import Idealize.ShloMosaic.Lib.SortFacts

@[expose] public section

set_option maxRecDepth 16384

noncomputable section

namespace Cert.Proof.Ref

open Idealize.ShloMosaic Idealize.SL.Sem
open Cert.ReferenceIdeal Cert.ReferenceIdeal.Gen

/-- The order of a head's entries, greatest first, that a stable sort gives. -/
def order (L : Fin 64 → EReal) : Fin 64 → Fin 64 :=
  sortedFrom (fun k k' => FloatOps.cmpfTotal (F := Ideal) (φ := .f32) .gt (L k) (L k') == 1#1)

theorem along_last (i : Fin 8192) (a : Fin 16) (e k : Fin 64) :
    Shape.Idx.along (s := S8192x16x64) (ix3 i a e) 2 k = ix3 i a k := by
  funext d
  fin_cases d <;> rfl

theorem topK_at {n : ℕ} (l : FVec Ideal S8192x16x64 .f32) (hs : S8192x16x64.Slices (fun _ => 0) ⟨3, ![8192, 16, n]⟩)
    (i : Fin 8192) (a : Fin 16) (k : Fin n) (hk : k.val < 64) :
    (Host.topK ⟨3, ![8192, 16, n]⟩ 2 (FloatOps.cmpfTotal .gt) l hs).1 (ix3 i a k)
        = l (ix3 i a (order (fun e => l (ix3 i a e)) ⟨k, hk⟩))
      ∧ (Host.topK ⟨3, ![8192, 16, n]⟩ 2 (FloatOps.cmpfTotal .gt) l hs).2 (ix3 i a k)
        = BitVec.ofNat 32 (order (fun e => l (ix3 i a e)) ⟨k, hk⟩) := by
  have hslice : ∀ {α : Type} (v : S8192x16x64.Idx → α),
      extractStridedSlice ⟨3, ![8192, 16, n]⟩ (fun _ => 0) v hs (ix3 i a k) = v (ix3 i a ⟨k, hk⟩) := by
    intro α v
    refine congrArg v (funext fun d => ?_)
    fin_cases d <;> exact Fin.ext (Nat.zero_add _)
  have h2 : (2 : ℕ) < S8192x16x64.rank := by decide
  have ho : ∀ f : Fin 64 → S8192x16x64.Idx, (∀ e, f e = ix3 i a e) →
      sortedFrom (fun k k' => FloatOps.cmpfTotal (F := Ideal) (φ := .f32) .gt (l (f k)) (l (f k')) == 1#1) ⟨k, hk⟩
        = order (fun e => l (ix3 i a e)) ⟨k, hk⟩ := by
    intro f hf
    simp only [hf]
    rfl
  have hal : ∀ e : Fin 64, Shape.Idx.along (s := S8192x16x64) (ix3 i a ⟨k, hk⟩) ⟨2, h2⟩ e = ix3 i a e := fun e => along_last i a ⟨k, hk⟩ e
  constructor
  · rw [Host.topK]
    dsimp only []
    rw [hslice]
    rw [Host.sort2, dif_pos h2]
    refine congrArg l ?_
    refine (hal _).trans ?_
    exact congrArg (ix3 i a) (ho _ hal)
  · rw [Host.topK]
    dsimp only []
    rw [hslice]
    rw [Host.sort2, dif_pos h2]
    dsimp only []
    rw [dif_pos h2]
    refine (congrArg (iotaInDim S8192x16x64 32 ⟨2, h2⟩) (hal _)).trans ?_
    exact congrArg (fun e : Fin 64 => BitVec.ofNat 32 e) (ho _ hal)

theorem order_surjective (L : Fin 64 → EReal) : Function.Surjective (order L) := sortedFrom_surjective _

theorem order_falls (L : Fin 64 → EReal) (i j : Fin 64) (h : i < j) : L (order L j) ≤ L (order L i) := by
  have hc : ∀ x y : EReal, (FloatOps.cmpfTotal (F := Ideal) (φ := .f32) .gt x y == 1#1) = decide (y < x) := fun x y => by
    rw [show FloatOps.cmpfTotal (F := Ideal) (φ := .f32) .gt x y = BitVec.ofBool (decide (y < x)) from rfl]
    cases decide (y < x) <;> rfl
  have := sortedFrom_noInversion (fun k k' => FloatOps.cmpfTotal (F := Ideal) (φ := .f32) .gt (L k) (L k') == 1#1)
    (fun k k' => FloatOps.cmpfTotal (F := Ideal) (φ := .f32) .gt (L k) (L k') == 1#1)
    (fun a b hab => by
      rw [hc, decide_eq_true_eq] at hab
      rw [hc, decide_eq_false_iff_not]
      exact not_lt_of_gt hab)
    (fun _ _ hab => hab)
    (fun a b c hab hbc => by
      rw [hc, decide_eq_false_iff_not, not_lt] at hab hbc ⊢
      exact hab.trans hbc) i j h
  rw [hc, decide_eq_false_iff_not, not_lt] at this
  exact this

theorem ranked_of (L : Fin 64 → ℝ) (σ : Fin 64 → Fin 64) (hs : Function.Surjective σ)
    (hf : ∀ i j, i < j → ((L (σ j) : ℝ) : EReal) ≤ ((L (σ i) : ℝ) : EReal))
    (h : ∀ k : Fin 8, ((L (σ ⟨k + 1, by omega⟩) : ℝ) : EReal) < ((L (σ ⟨k, by omega⟩) : ℝ) : EReal)) : Ranked L σ where
  surj := hs
  falls i j hij := by
    rcases hij.eq_or_lt with rfl | hij
    · exact le_rfl
    · exact EReal.coe_le_coe_iff.1 (hf i j hij)
  apart i j hi hij := by
    refine lt_of_le_of_lt ?_ (EReal.coe_lt_coe_iff.1 (h ⟨i, hi⟩))
    rcases (show i.val + 1 ≤ j.val from hij).eq_or_lt with e | hlt
    · exact le_of_eq (congrArg L (congrArg σ (Fin.ext e.symm)))
    · exact EReal.coe_le_coe_iff.1 (hf ⟨i + 1, by omega⟩ j hlt)

/-- A head of real entries whose nine greatest fall strictly is ranked by the sort's order. -/
theorem order_ranked (L : Fin 64 → ℝ)
    (h : ∀ k : Fin 8, ((L (order (fun e => (L e : EReal)) ⟨k + 1, by omega⟩) : ℝ) : EReal)
      < ((L (order (fun e => (L e : EReal)) ⟨k, by omega⟩) : ℝ) : EReal)) :
    Ranked L (order (fun e => (L e : EReal))) :=
  ranked_of L _ (order_surjective _) (order_falls (fun e => (L e : EReal))) h

end Cert.Proof.Ref

end
-- ==== Proof.Precondition.lean ====
/- What the precondition says: every argument is a real number, and the nine greatest logits of each head fall strictly. -/
module

public import proofs.«01_k».proof.Pre_finite_untied
public import proofs.«01_k».proof.Proof.Ranks
public import Idealize.ShloMosaic.Lib.ReduceAll

@[expose] public section

set_option maxRecDepth 16384

noncomputable section

namespace Cert.Proof.Pre

open Idealize.ShloMosaic Idealize.SL.Sem
open Cert.Pre_finite_untied Cert.Proof.Ref

/-- The side conditions of the precondition's operations. -/
instance facts : Cert.Pre_finite_untied.Facts := by constructor <;> decide

open Cert.Pre_finite_untied.Facts

variable {F : FTy → Type} [FloatOps F]

/-- Whether every entry of a vector is less than infinity in size. -/
def finite {s : Shape} {axes : List (Fin s.rank)} (hb : S_.BroadcastsInDim s (![] : Fin 0 → Fin s.rank)) (hr : s.ReducesTo axes S_)
    (x : FVec F s .f32) : IVec S_ 1 :=
  Host.reduce IntOp.andi (cmpf .olt (Host.absf x) (broadcastInDim s ![] hb (constant S_ .f32 0x7F800000#32)))
    (constantI S_ 1 1#1) hr h_S_

/-- Whether the nine greatest entries of each head fall strictly. -/
def falling (l : FVec F S8192x16x64 .f32) : IVec S_ 1 :=
  Host.reduce IntOp.andi (cmpf .ogt
      (extractStridedSlice S8192x16x8 ![0, 0, 0]
        (Host.topK S8192x16x9 2 (FloatOps.cmpfTotal .gt) l sliceFits_S8192x16x64_S8192x16x9).1 slices_S8192x16x9_S8192x16x8_0_0_0)
      (extractStridedSlice S8192x16x8 ![0, 0, 1]
        (Host.topK S8192x16x9 2 (FloatOps.cmpfTotal .gt) l sliceFits_S8192x16x64_S8192x16x9).1 slices_S8192x16x9_S8192x16x8_0_0_1))
    (constantI S_ 1 1#1) reducesTo_S8192x16x8_S_d0_1_2 h_S_

variable (x0 : FVec F S8192x4096 .f32) (x1 : FVec F S4096x2048 .f32) (x2 x3 x4 : FVec F S2048 .f32)
  (x5 : FVec F S2048x2048 .f32) (x6 x7 x8 : FVec F S2048 .f32) (x9 : FVec F S2048x1024 .f32) (x10 : FVec F S1024 .f32)

/-- The precondition as its twelve conditions. -/
theorem fn_eq : fn (F := F) x0 x1 x2 x3 x4 x5 x6 x7 x8 x9 x10
    = andi (andi (andi (andi (andi (andi (andi (andi (andi (andi (andi
        (finite bcast_S_S8192x4096 reducesTo_S8192x4096_S_d0_1 x0) (finite bcast_S_S4096x2048 reducesTo_S4096x2048_S_d0_1 x1))
        (finite bcast_S_S2048 reducesTo_S2048_S_d0 x2)) (finite bcast_S_S2048 reducesTo_S2048_S_d0 x3))
        (finite bcast_S_S2048 reducesTo_S2048_S_d0 x4)) (finite bcast_S_S2048x2048 reducesTo_S2048x2048_S_d0_1 x5))
        (finite bcast_S_S2048 reducesTo_S2048_S_d0 x6)) (finite bcast_S_S2048 reducesTo_S2048_S_d0 x7))
        (finite bcast_S_S2048 reducesTo_S2048_S_d0 x8)) (finite bcast_S_S2048x1024 reducesTo_S2048x1024_S_d0_1 x9))
        (finite bcast_S_S1024 reducesTo_S1024_S_d0 x10)) (falling (Ref.logits x0 x1 x2 x3 x4 x5 x6 x7 x8 x9 x10)) := rfl

theorem eq_one (x : BitVec 1) (b : Bool) (h : BitVec.ofBool b = x) (hx : x = 1#1) : b = true := by
  subst h
  cases b
  · exact absurd hx (by decide)
  · rfl

theorem andi_one {u v : IVec S_ 1} (h : andi u v = fun _ => 1#1) : u = (fun _ => 1#1) ∧ v = (fun _ => 1#1) := by
  have e : ∀ p q : BitVec 1, IntOp.andi p q = 1#1 → p = 1#1 ∧ q = 1#1 := by decide
  exact ⟨funext fun j => (e _ _ (congrFun h j)).1, funext fun j => (e _ _ (congrFun h j)).2⟩

theorem only (j k : S_.Idx) : j = k := funext fun d => d.elim0

instance : Subsingleton S_.Idx := ⟨only⟩

theorem finite_real {s : Shape} {axes : List (Fin s.rank)} (hb : S_.BroadcastsInDim s (![] : Fin 0 → Fin s.rank))
    (hr : s.ReducesTo axes S_) (x : FVec Ideal s .f32) (h : finite (F := Ideal) hb hr x = fun _ => 1#1) : IsReal x := by
  refine ⟨fun i => (x i : EReal).toReal, funext fun i => ?_⟩
  have hi : BitVec.ofBool (decide (max (x i : EReal) (-(x i : EReal)) < Ideal.ofBits .f32 0x7F800000#32)) = 1#1 :=
    Host.reduce_andi_all _ _ hr h_S_ ix0 (congrFun h ix0) i
  have hlt := of_decide_eq_true (eq_one _ _ rfl hi)
  rw [lit_top, max_lt_iff] at hlt
  refine (EReal.coe_toReal hlt.1.ne ?_).symm
  rintro e
  rw [e, EReal.neg_bot] at hlt
  exact lt_irrefl _ hlt.2

theorem falling_lt (l : FVec Ideal S8192x16x64 .f32) (h : falling (F := Ideal) l = fun _ => 1#1) (i : Fin 8192) (a : Fin 16)
    (k : Fin 8) : (l (ix3 i a (order (fun e => l (ix3 i a e)) ⟨k + 1, by omega⟩)) : EReal)
      < l (ix3 i a (order (fun e => l (ix3 i a e)) ⟨k, by omega⟩)) := by
  have hi := Host.reduce_andi_all _ _ reducesTo_S8192x16x8_S_d0_1_2 h_S_ ix0 (congrFun h ix0) (ix3 i a k)
  have hs : ∀ v : FVec Ideal S8192x16x9 .f32, ∀ (o : ℕ) (hs : S8192x16x9.Slices ![0, 0, o] S8192x16x8) (ho : k.val + o < 9),
      (extractStridedSlice S8192x16x8 ![0, 0, o] v hs (ix3 i a k) : EReal) = v (ix3 i a ⟨k + o, ho⟩) := by
    intro v o hs ho
    refine congrArg v (funext fun d => ?_)
    fin_cases d
    · exact Fin.ext (Nat.zero_add _)
    · exact Fin.ext (Nat.zero_add _)
    · exact Fin.ext (Nat.add_comm _ _)
  have hlt := of_decide_eq_true (eq_one _ (decide (_ < (_ : EReal))) rfl hi)
  rw [hs _ 0 _ (by omega), hs _ 1 _ (by omega)] at hlt
  rw [(topK_at l sliceFits_S8192x16x64_S8192x16x9 i a _ (by simp only []; omega)).1] at hlt
  rw [(topK_at l sliceFits_S8192x16x64_S8192x16x9 i a _ (by simp only []; omega)).1] at hlt
  exact hlt

end Cert.Proof.Pre

end
-- ==== Proof.Agree.lean ====
/- Under the precondition the kernel's rows and heads are the reference's results. -/
module

public import proofs.«01_k».proof.Proof.Precondition

@[expose] public section

set_option maxRecDepth 16384

noncomputable section

namespace Cert.Proof

open Idealize.ShloMosaic Idealize.SL.Sem
open Cert.Pre_finite_untied Cert.Proof.Ref Cert.Proof.Pre

/-- The reference's mask keeps the entries of the eight first ranks. -/
theorem masked_top (l : FVec Ideal S8192x16x64 .f32) (i : Fin 8192) (a : Fin 16) (L : Fin 64 → ℝ)
    (hl : (fun e => (l (ix3 i a e) : EReal)) = fun e => ((L e : ℝ) : EReal)) (e : Fin 64) :
    (masked (F := Ideal) (among (places l)) l (ix3 i a e) : EReal) = topOnly L (order (fun e => ((L e : ℝ) : EReal))) e := by
  have hk : (∃ k : Fin 8, places (F := Ideal) l (ix3 i a k) = BitVec.ofNat 32 e)
      ↔ ∃ j : Fin 64, j.val < 8 ∧ order (fun e => ((L e : ℝ) : EReal)) j = e := by
    have hp : ∀ (k : Fin 8), places (F := Ideal) l (ix3 i a k)
        = BitVec.ofNat 32 (order (fun e => ((L e : ℝ) : EReal)) ⟨k, by omega⟩) := fun k => by
      rw [← hl]
      exact (topK_at l Cert.ReferenceIdeal.Gen.sliceFits_S8192x16x64_S8192x16x8 i a k (by omega)).2
    have hinj : ∀ u v : Fin 64, BitVec.ofNat 32 u = BitVec.ofNat 32 v ↔ u = v := fun u v => by
      constructor
      · intro h
        have := congrArg BitVec.toNat h
        simp only [BitVec.toNat_ofNat] at this
        exact Fin.ext (by omega)
      · rintro rfl
        rfl
    simp only [hp, hinj]
    exact ⟨fun ⟨k, h⟩ => ⟨⟨k, by omega⟩, k.isLt, h⟩, fun ⟨j, hj, h⟩ => ⟨⟨j, hj⟩, h⟩⟩
  rw [masked_at, topOnly, lit_bot]
  simp only [among_at, hk, ← congrFun hl e]

/-- A head of real logits whose nine greatest fall strictly: the reference's gates are the kernel's. -/
theorem gates_agree (l : FVec Ideal S8192x16x64 .f32) (i : Fin 8192) (a : Fin 16)
    (hr : IsReal fun e => (l (ix3 i a e) : EReal))
    (hlt : ∀ k : Fin 8, (l (ix3 i a (order (fun e => l (ix3 i a e)) ⟨k + 1, by omega⟩)) : EReal)
      < l (ix3 i a (order (fun e => l (ix3 i a e)) ⟨k, by omega⟩))) (e : Fin 64) :
    (Ref.gates (F := Ideal) l (ix3 i a e) : EReal) = kGate (fun e => l (ix3 i a e)) e := by
  obtain ⟨L, hl⟩ := hr
  have hR : Ranked L (order (fun e => ((L e : ℝ) : EReal))) := by
    refine order_ranked L fun k => ?_
    have := hlt k
    rw [hl] at this
    rw [← congrFun hl, ← congrFun hl]
    exact this
  have hs : ∀ e, (noNan (F := Ideal) (softmax (masked (among (places l)) l)) (ix3 i a e) : EReal)
      = kGate (fun e => ((L e : ℝ) : EReal)) e := fun e => by
    rw [noNan_at, softmax_at, ← hR.soft_eq]
    exact congrArg (fun M => rSoft M e) (funext (masked_top l i a L hl))
  obtain ⟨G, hG⟩ := hR.gate_real
  rw [Ref.gates, swapped_at, swapped_at, hs, hl, hG, lit_top, lit_bot, if_neg (EReal.coe_ne_top _), if_neg (EReal.coe_ne_bot _)]

section
variable (x0 : FVec Ideal S8192x4096 .f32) (x1 : FVec Ideal S4096x2048 .f32) (x2 x3 x4 : FVec Ideal S2048 .f32)
  (x5 : FVec Ideal S2048x2048 .f32) (x6 x7 x8 : FVec Ideal S2048 .f32) (x9 : FVec Ideal S2048x1024 .f32)
  (x10 : FVec Ideal S1024 .f32)

/-- The kernel's logits of a token. -/
def tokenLogits (i : Fin 8192) : Fin 1024 → EReal :=
  kLogits (fun k => x0 (ix2 i k)) (fun k l => x1 (ix2 k l)) (fun l => x2 (ix1 l)) (fun l => x3 (ix1 l))
    (fun l => x4 (ix1 l)) (fun k l => x5 (ix2 k l)) (fun l => x6 (ix1 l)) (fun l => x7 (ix1 l)) (fun l => x8 (ix1 l))
    (fun k l => x9 (ix2 k l)) (fun l => x10 (ix1 l))

variable (h : fn (F := Ideal) x0 x1 x2 x3 x4 x5 x6 x7 x8 x9 x10 = fun _ => 1#1)
include h

theorem token_real (i : Fin 8192) : tokenLogits x0 x1 x2 x3 x4 x5 x6 x7 x8 x9 x10 i
      = rLogits (fun k => x0 (ix2 i k)) (fun k l => x1 (ix2 k l)) (fun l => x2 (ix1 l)) (fun l => x3 (ix1 l))
          (fun l => x4 (ix1 l)) (fun k l => x5 (ix2 k l)) (fun l => x6 (ix1 l)) (fun l => x7 (ix1 l)) (fun l => x8 (ix1 l))
          (fun k l => x9 (ix2 k l)) (fun l => x10 (ix1 l))
    ∧ IsReal (tokenLogits x0 x1 x2 x3 x4 x5 x6 x7 x8 x9 x10 i) := by
  rw [fn_eq] at h
  obtain ⟨h, -⟩ := andi_one h
  obtain ⟨h, h10⟩ := andi_one h
  obtain ⟨h, h9⟩ := andi_one h
  obtain ⟨h, h8⟩ := andi_one h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  have along : ∀ {α β : Type} {f : α → EReal} (g : β → α), IsReal f → IsReal fun b => f (g b) :=
    fun g ⟨F, e⟩ => ⟨fun b => F (g b), by rw [e]⟩
  obtain ⟨e, r⟩ := logits_real (along (fun k => ix2 i k) (finite_real _ _ x0 h0))
    (fun k => along (fun l => ix2 k l) (finite_real _ _ x1 h1)) (along (fun l => ix1 l) (finite_real _ _ x2 h2))
    (along (fun l => ix1 l) (finite_real _ _ x3 h3)) (along (fun l => ix1 l) (finite_real _ _ x4 h4))
    (fun k => along (fun l => ix2 k l) (finite_real _ _ x5 h5)) (along (fun l => ix1 l) (finite_real _ _ x6 h6))
    (along (fun l => ix1 l) (finite_real _ _ x7 h7)) (along (fun l => ix1 l) (finite_real _ _ x8 h8))
    (fun k => along (fun l => ix2 k l) (finite_real _ _ x9 h9)) (along (fun l => ix1 l) (finite_real _ _ x10 h10))
  rw [← e] at r
  exact ⟨e, r⟩

/-- The logits agree. -/
theorem token_logits (i : Fin 8192) (a : Fin 16) (e : Fin 64) :
    headOf (tokenLogits x0 x1 x2 x3 x4 x5 x6 x7 x8 x9 x10 i) a e
      = Ref.logits (F := Ideal) x0 x1 x2 x3 x4 x5 x6 x7 x8 x9 x10 (ix3 i a e) := by
  rw [logits_at, (token_real x0 x1 x2 x3 x4 x5 x6 x7 x8 x9 x10 h i).1]

/-- The gates agree. -/
theorem token_gates (i : Fin 8192) (a : Fin 16) (e : Fin 64) :
    kGate (headOf (tokenLogits x0 x1 x2 x3 x4 x5 x6 x7 x8 x9 x10 i) a) e
      = Ref.gates (F := Ideal) (Ref.logits x0 x1 x2 x3 x4 x5 x6 x7 x8 x9 x10) (ix3 i a e) := by
  have hl : (fun e => (Ref.logits (F := Ideal) x0 x1 x2 x3 x4 x5 x6 x7 x8 x9 x10 (ix3 i a e) : EReal))
      = headOf (tokenLogits x0 x1 x2 x3 x4 x5 x6 x7 x8 x9 x10 i) a :=
    funext fun e => (token_logits x0 x1 x2 x3 x4 x5 x6 x7 x8 x9 x10 h i a e).symm
  rw [gates_agree, hl]
  · obtain ⟨R, hR⟩ := (token_real x0 x1 x2 x3 x4 x5 x6 x7 x8 x9 x10 h i).2
    rw [hl]
    exact ⟨fun e => R ⟨a * 64 + e, by omega⟩, funext fun e => by rw [headOf, hR]⟩
  · intro k
    refine falling_lt _ ?_ i a k
    rw [fn_eq] at h
    exact (andi_one h).2

end

end Cert.Proof

end
-- ==== Proof.Arrays.lean ====
/- The kernel's two result arrays after the region: each token's logits, and each head's gates. -/
module

public import proofs.«01_k».proof.Proof.Agree
public import Idealize.ShloMosaic.Lib.Pipeline.ValueKit

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- Four tiles of 256 lanes, stored side by side, read at a lane. -/
theorem tiles_at (T : Fin 4 → FVec Ideal S256x256 .f32) (G : S256x1024.Idx → EReal)
    (hT : ∀ q r l, (T q (ix2 r l) : EReal) = G (ix2 r (at4 q l))) (y : S256x1024.Idx) :
    (View.canon [⟨r0_120, T 3⟩, ⟨r0_110, T 2⟩, ⟨r0_100, T 1⟩, ⟨r0_90, T 0⟩] : Vec Ideal S256x1024 .f32) y = (G y : EReal) := by
  canon_tiles x h
  all_goals exact (congrArg _ (by blk_ext)).trans ((hT _ (x 0) (x 1)).trans (congrArg G (by blk_ext [at4])))

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

/-- The token a row of a block belongs to. -/
def token (t : Fin cfg0.N) (r : Fin 256) : Fin 8192 := ⟨t.val * 256 + r, by
  have := lt_of_lt_of_eq t.isLt (by decide +kernel : cfg0.N = 32)
  omega⟩

variable (c : Dev nD) (t : Fin cfg0.N)

/-- A vector laid out as a one-row matrix. -/
abbrev asRow (v : FVec Ideal S2048 .f32) : FVec Ideal S1x2048 .f32 := shapeCast S1x2048 v shapeCasts_S2048_S1x2048

theorem asRow_at (v : FVec Ideal S2048 .f32) (l : Fin 2048) : (asRow v (ix2 0 l) : EReal) = v (ix1 l) := by
  pointwise
  blk_ext

/-- The same at the last layer's width. -/
abbrev asRow3 (v : FVec Ideal S1024 .f32) : FVec Ideal S1x1024 .f32 := shapeCast S1x1024 v shapeCasts_S1024_S1x1024

theorem asRow3_at (v : FVec Ideal S1024 .f32) (l : Fin 1024) : (asRow3 v (ix2 0 l) : EReal) = v (ix1 l) := by
  pointwise
  blk_ext

/-- The bias, scale and shift rows as the region finds them. -/
theorem rows_entry : V m c main_call0_v3 = asRow (m ((c : Thread nD τ).loc main_arg2))
    ∧ V m c main_call0_v4 = asRow (m ((c : Thread nD τ).loc main_arg3))
    ∧ V m c main_call0_v5 = asRow (m ((c : Thread nD τ).loc main_arg4))
    ∧ V m c main_call0_v6 = asRow (m ((c : Thread nD τ).loc main_arg6))
    ∧ V m c main_call0_v7 = asRow (m ((c : Thread nD τ).loc main_arg7))
    ∧ V m c main_call0_v8 = asRow (m ((c : Thread nD τ).loc main_arg8))
    ∧ V m c main_call0_v9 = asRow3 (m ((c : Thread nD τ).loc main_arg10)) := by
  refine ⟨?_, ?_, ?_, ?_, ?_, ?_, ?_⟩ <;> (entry_read; rfl)

set_option maxHeartbeats 1600000 in
/-- Each row's block is the whole row. -/
theorem rows_block : iblk m c 2 t = asRow (m ((c : Thread nD τ).loc main_arg2))
    ∧ iblk m c 3 t = asRow (m ((c : Thread nD τ).loc main_arg3)) ∧ iblk m c 4 t = asRow (m ((c : Thread nD τ).loc main_arg4))
    ∧ iblk m c 6 t = asRow (m ((c : Thread nD τ).loc main_arg6)) ∧ iblk m c 7 t = asRow (m ((c : Thread nD τ).loc main_arg7))
    ∧ iblk m c 8 t = asRow (m ((c : Thread nD τ).loc main_arg8)) ∧ iblk m c 10 t = asRow3 (m ((c : Thread nD τ).loc main_arg10)) := by
  obtain ⟨h2, h3, h4, h6, h7, h8, h10⟩ := rows_entry m c
  rw [← h2, ← h3, ← h4, ← h6, ← h7, ← h8, ← h10]
  refine ⟨?_, ?_, ?_, ?_, ?_, ?_, ?_⟩ <;> blk_ext! [iblk, idx t]

/-- The token and matrix operands of a block. -/
theorem blk_at (r : Fin 256) : (∀ k : Fin 4096, (iblk m c 0 t (ix2 r k) : EReal) = (m ((c : Thread nD τ).loc main_arg0)) (ix2 (token t r) k))
    ∧ (∀ (k : Fin 4096) (l : Fin 2048), (iblk m c 1 t (ix2 k l) : EReal) = (m ((c : Thread nD τ).loc main_arg1)) (ix2 k l))
    ∧ (∀ (k : Fin 2048) (l : Fin 2048), (iblk m c 5 t (ix2 k l) : EReal) = (m ((c : Thread nD τ).loc main_arg5)) (ix2 k l))
    ∧ ∀ (k : Fin 2048) (l : Fin 1024), (iblk m c 9 t (ix2 k l) : EReal) = (m ((c : Thread nD τ).loc main_arg9)) (ix2 k l) := by
  refine ⟨fun k => ?_, fun k l => ?_, fun k l => ?_, fun k l => ?_⟩ <;> blk_point [iblk, V, idx t, token]

/-- The kernel's logits of a token, over its argument arrays. -/
def memLogits (i : Fin 8192) : Fin 1024 → EReal :=
  tokenLogits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) i

/-- A block's row of logits is its token's. -/
theorem block_logits (r : Fin 256) : blockLogits (iblk m c 0 t) (iblk m c 1 t) (iblk m c 2 t) (iblk m c 3 t) (iblk m c 4 t)
    (iblk m c 5 t) (iblk m c 6 t) (iblk m c 7 t) (iblk m c 8 t) (iblk m c 9 t) (iblk m c 10 t) r = memLogits m c (token t r) := by
  obtain ⟨h0, h1, h5, h9⟩ := blk_at m c t r
  obtain ⟨h2, h3, h4, h6, h7, h8, h10⟩ := rows_block m c t
  rw [h2, h3, h4, h6, h7, h8, h10, blockLogits, memLogits, tokenLogits]
  simp only [h0, h1, h5, h9, asRow_at, asRow3_at]

/-- The kernel's gate at a lane of a token. -/
def memGate (i : Fin 8192) (l : Fin 1024) : EReal :=
  kGate (headOf (memLogits m c i) ⟨l / 64, by omega⟩) ⟨l % 64, by omega⟩

/-- The logits' array after the region. -/
theorem final_logits : (dats m 0 c).arrAt 11 (cfgs 0).N = fun y : S8192x1024.Idx => memLogits m c (y 0) (y 1) := by
  refine (dats m 0 c).arrAt_eq_of_covers 11 _ (by decide +kernel) fun t _ y => ?_
  blk_simp
  rw [after0_11, out_logits]
  refine (tiles_at (layer3 (F := Ideal) (iblk m c 0 t) (iblk m c 1 t) (iblk m c 2 t) (iblk m c 3 t) (iblk m c 4 t)
    (iblk m c 5 t) (iblk m c 6 t) (iblk m c 7 t) (iblk m c 8 t) (iblk m c 9 t) (iblk m c 10 t))
    (fun y => memLogits m c (token t (y 0)) (y 1)) (fun q r l => ?_) y).trans ?_
  · rw [layer3_at, block_logits]
    rfl
  · generalize memLogits m c = g
    refine congrArg₂ g (Fin.ext ?_) (Fin.ext ?_)
    · blk_simp [idx t, token]
    · blk_simp [idx t]

/-- The gates' array after the region. -/
theorem final_gates : (dats m 0 c).arrAt 12 (cfgs 0).N = fun y : S8192x1024.Idx => memGate m c (y 0) (y 1) := by
  refine (dats m 0 c).arrAt_eq_of_covers 12 _ (by decide +kernel) fun t _ y => ?_
  blk_simp
  rw [after0_12, out_gates]
  refine (tiles_at (gate (F := Ideal) (iblk m c 0 t) (iblk m c 1 t) (iblk m c 2 t) (iblk m c 3 t) (iblk m c 4 t)
    (iblk m c 5 t) (iblk m c 6 t) (iblk m c 7 t) (iblk m c 8 t) (iblk m c 9 t) (iblk m c 10 t))
    (fun y => memGate m c (token t (y 0)) (y 1)) (fun q r l => ?_) y).trans ?_
  · rw [gate_at, block_logits]
    unfold memGate
    generalize memLogits m c = g
    refine congrArg₂ (fun a e => kGate (headOf (g (token t r)) a) e) (Fin.ext ?_) (Fin.ext ?_)
    · change q.val * 4 + l.val / 64 = (q.val * 256 + l.val) / 64
      omega
    · change l.val % 64 = (q.val * 256 + l.val) % 64
      omega
  · generalize memGate m c = g
    refine congrArg₂ g (Fin.ext ?_) (Fin.ext ?_)
    · blk_simp [idx t, token]
    · blk_simp [idx t]

end Cert.Proof

end
-- ==== Proof.Run.lean ====
/- The kernel's run: its two results are each head's logits and gates, and its arguments end unchanged. -/
module

public import proofs.«01_k».proof.Proof.Arrays
public import Idealize.ShloMosaic.Lib.Claim

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- An array of token rows, laid out by heads. -/
abbrev byHeads (v : FVec Ideal S8192x1024 .f32) : FVec Ideal S8192x16x64 .f32 :=
  shapeCast S8192x16x64 v shapeCasts_S8192x1024_S8192x16x64

theorem byHeads_at (v : FVec Ideal S8192x1024 .f32) (i : Fin 8192) (a : Fin 16) (e : Fin 64) :
    (byHeads v (ix3 i a e) : EReal) = v (ix2 i ⟨a * 64 + e, by omega⟩) := by
  pointwise
  blk_ext

/-- The two results: the region's arrays, laid out by heads. -/
theorem tail_results :
    Pipeline.afterTail₀ cfgs (dats m) 0 (V0 m) [hostOps1] c main_v0_0 = byHeads ((dats m 0 c).arrAt 11 (cfgs 0).N)
    ∧ Pipeline.afterTail₀ cfgs (dats m) 0 (V0 m) [hostOps1] c main_v0_1 = byHeads ((dats m 0 c).arrAt 12 (cfgs 0).N) := by
  have h : ∀ w, Pipeline.withArrays spec0 c (V0 m c) (fun w => (dats m 0 c).arrAt w (cfgs 0).N) (Proc.devRef .tc (Pipeline.arrRef spec0 w))
      = (dats m 0 c).arrAt w (cfgs 0).N := fun w => Pipeline.withArrays_arr spec0 launch0.win.arr_inj c _ _ w
  rw [← h 11, ← h 12]
  unfold Pipeline.afterTail₀
  change StableHlo.after hostOps1 (Pipeline.withArrays spec0 c (V0 m c) (fun w => (dats m 0 c).arrAt w (cfgs 0).N)) _ = _
    ∧ StableHlo.after hostOps1 (Pipeline.withArrays spec0 c (V0 m c) (fun w => (dats m 0 c).arrAt w (cfgs 0).N)) _ = _
  generalize Pipeline.withArrays spec0 c (V0 m c) (fun w => (dats m 0 c).arrAt w (cfgs 0).N) = X
  constructor
  · after_results
    rfl
  · after_results
    rfl

/-- The precondition over the kernel's argument arrays. -/
abbrev Holds : Prop := Cert.Pre_finite_untied.fn (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) = fun _ => 1#1

/-- The reference's logits over the kernel's argument arrays. -/
abbrev refLogits : FVec Ideal S8192x16x64 .f32 := Ref.logits (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10))

/-- An array over tokens, heads and experts is what it holds at each of them. -/
theorem by_coords {u v : FVec Ideal S8192x16x64 .f32}
    (h : ∀ (i : Fin 8192) (a : Fin 16) (e : Fin 64), (u (ix3 i a e) : EReal) = v (ix3 i a e)) : u = v :=
  funext fun y => by
    have e : y = ix3 (y 0) (y 1) (y 2) := by blk_ext
    rw [e]
    exact h _ _ _

/-- The first result is the reference's logits. -/
theorem logits_result (h : Holds m c) : byHeads ((dats m 0 c).arrAt 11 (cfgs 0).N) = refLogits m c := by
  refine by_coords fun i a e => ?_
  rw [byHeads_at, final_logits]
  exact token_logits _ _ _ _ _ _ _ _ _ _ _ h i a e

/-- The second result is the reference's gates. -/
theorem gates_result (h : Holds m c) :
    byHeads ((dats m 0 c).arrAt 12 (cfgs 0).N) = Ref.gates (F := Ideal) (refLogits m c) := by
  refine by_coords fun i a e => ?_
  rw [byHeads_at, final_gates]
  refine Eq.trans ?_ (token_gates _ _ _ _ _ _ _ _ _ _ _ h i a e)
  change memGate m c i ⟨a * 64 + e, _⟩ = kGate (headOf (memLogits m c i) a) e
  unfold memGate
  generalize memLogits m c i = g
  refine congrArg₂ (fun a e => kGate (headOf g a) e) (Fin.ext ?_) (Fin.ext ?_)
  · change (a.val * 64 + e.val) / 64 = a.val
    omega
  · change (a.val * 64 + e.val) % 64 = e.val
    omega

/-- The kernel's run, its results in the reference's words. -/
theorem run_kernel (h : ∀ c, Holds m c) : θ_run defs (onTc (τ := τ) (main (F := Ideal))) ⟨m, fun _ => 0, ρ⟩ (fun r => ∀ c : Dev nD,
      r.2.mem ((c : Thread nD τ).loc main_v0_0) = refLogits m c
      ∧ r.2.mem ((c : Thread nD τ).loc main_v0_1) = Ref.gates (F := Ideal) (refLogits m c)) :=
  (θ_run defs _ _).mono (fun _ hr c =>
    ⟨((hr c).2 main_v0_0 (Pipeline.mem_restRefs_of main_v0_0 (by decide) (by decide))).trans ((tail_results m c).1.trans (logits_result m c (h c))),
     ((hr c).2 main_v0_1 (Pipeline.mem_restRefs_of main_v0_1 (by decide) (by decide))).trans ((tail_results m c).2.trans (gates_result m c (h c)))⟩)
    (Cert.KernelIdeal.Gen.run_main m ρ)

end Cert.Proof

end
-- ==== Proof.Algebraic.lean ====
/- The kernel and the reference, from agreeing arguments under the precondition, end with equal results. -/
module

public import proofs.«01_k».proof.Defs
public import proofs.«01_k».proof.Proof.Run

@[expose] public section

set_option maxRecDepth 16384

noncomputable section

namespace Cert.Proof

open Idealize.ShloMosaic Idealize.ShloMosaic.TcCoe Idealize.SL.Sem

section
open Cert.ReferenceIdeal Cert.ReferenceIdeal.Gen

variable (m' : (ℓ : Loc nD τ sig) → Buf (Elt Ideal) ℓ) (g' : Dev nD → PrngReg)

/-- The reference's run, its results in plain terms. -/
theorem run_reference : θ_run defs (onTc (τ := τ) (main (F := Ideal))) ⟨m', fun _ => 0, g'⟩ (fun r => ∀ c : Dev nD,
      (r.2.mem ((c.tc : Thread nD τ).loc main_v74) = Ref.logits (F := Ideal) (m' ((c.tc : Thread nD τ).loc main_arg0))
        (m' ((c.tc : Thread nD τ).loc main_arg1)) (m' ((c.tc : Thread nD τ).loc main_arg2)) (m' ((c.tc : Thread nD τ).loc main_arg3))
        (m' ((c.tc : Thread nD τ).loc main_arg4)) (m' ((c.tc : Thread nD τ).loc main_arg5)) (m' ((c.tc : Thread nD τ).loc main_arg6))
        (m' ((c.tc : Thread nD τ).loc main_arg7)) (m' ((c.tc : Thread nD τ).loc main_arg8)) (m' ((c.tc : Thread nD τ).loc main_arg9))
        (m' ((c.tc : Thread nD τ).loc main_arg10)))
      ∧ (r.2.mem ((c.tc : Thread nD τ).loc main_v94) = Ref.gates (F := Ideal) (Ref.logits (m' ((c.tc : Thread nD τ).loc main_arg0))
        (m' ((c.tc : Thread nD τ).loc main_arg1)) (m' ((c.tc : Thread nD τ).loc main_arg2)) (m' ((c.tc : Thread nD τ).loc main_arg3))
        (m' ((c.tc : Thread nD τ).loc main_arg4)) (m' ((c.tc : Thread nD τ).loc main_arg5)) (m' ((c.tc : Thread nD τ).loc main_arg6))
        (m' ((c.tc : Thread nD τ).loc main_arg7)) (m' ((c.tc : Thread nD τ).loc main_arg8)) (m' ((c.tc : Thread nD τ).loc main_arg9))
        (m' ((c.tc : Thread nD τ).loc main_arg10))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run defs _ _).mono (fun _ hr c => by
    obtain ⟨h74, h94, -, h⟩ := hr c
    have e := Ref.v74_eq (F := Ideal) (StableHlo.launchContents m' c)
    exact ⟨h74.trans e, h94.trans ((Ref.v94_eq (F := Ideal) (StableHlo.launchContents m' c)).trans (congrArg (Ref.gates (F := Ideal)) e)), h⟩)
    (Cert.ReferenceIdeal.Value.run m' g')

end

/-- Equal results, equal arguments: the algebraic claim. -/
theorem algebraic : Cert.algebraic_KernelIdeal_ReferenceIdeal_pre_finite_untied := by
  intro m g m' g' hpre hagree
  refine ⟨fun c => refLogits m c, fun c => Ref.gates (F := Ideal) (refLogits m c), fun c => refLogits m c, ?_, ?_⟩
  · refine (θ_run _ _ _).mono (fun _ h c => ⟨(h.1 c).1, (h.1 c).2, (h.1 c).1, h.2 c⟩)
      (θ_run_and (run_kernel m g hpre) (Cert.KernelIdeal.Gen.unchanged m g))
  · refine (θ_run _ _ _).mono (fun _ h c => ?_) (run_reference m' g')
    obtain ⟨h74, h94, hargs⟩ := h c
    obtain ⟨e0, e1, e2, e3, e4, e5, e6, e7, e8, e9, e10⟩ := hagree c
    rw [e0, e1, e2, e3, e4, e5, e6, e7, e8, e9, e10] at h74 h94
    exact ⟨h74, h94, h74, hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import Idealize.ShloMosaic.Lib.Quiescent
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proof.Pre.facts,
  fun m ρ _ => Cert.Kernel.Gen.frame m ρ, fun m ρ _ => Cert.KernelIdeal.Gen.frame m ρ, fun m ρ _ => Cert.KernelIdeal.Gen.frame m ρ,
  fun m g _ => (θ_run _ _ _).mono (fun _ h => ⟨fun c => (h c).2.2.2, sem_eq_zero_of_no_sems rfl _⟩) (Cert.ReferenceIdeal.Value.run m g),
  fun m g _ => (θ_run _ _ _).mono (fun _ h => ⟨fun c => (h c).2.2.2, sem_eq_zero_of_no_sems rfl _⟩) (Cert.ReferenceIdeal.Value.run m g),
  trivial, algebraic⟩

end Cert.Proof

end
